-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "c128_255" .f32 0x3F008081#32 ((128 / 255 : ℝ) : EReal)
  ∧ IdealRules.named_const.Statement Cert.KernelIdeal.κ "inv255" .f32 0x3B808081#32 ((1 / 255 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S_ .f32) (main_arg5 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_v21 : IVec S_ 1 := andi main_v18 main_v20
  let main_v22 : FVec F S128x128 .f32 := Host.absf main_arg5
  let main_cst_7 : FVec F S_ .f32 := constant S_ .f32 0x7F800000#32
  let main_v23 : FVec F S128x128 .f32 := broadcastInDim S128x128 ![] bcast_S_S128x128 main_cst_7
  let main_v24 : IVec S128x128 1 := cmpf .olt main_v22 main_v23
  let main_c_8 : IVec S_ 1 := constantI S_ 1 1#1
  let main_v25 : IVec S_ 1 := (fun x v => Host.reduce IntOp.andi x v reducesTo_S128x128_S_d0_1 h_S_) main_v24 main_c_8
  let main_v26 : IVec S_ 1 := andi main_v21 main_v25
  main_v26

def fn {F : FTy → Type} [FloatOps F] (main_arg0 : FVec F S10000x128 .f32) (main_arg1 : FVec F S10000x10000 .f32) (main_arg2 : FVec F S128x128 .f32) (main_arg3 : FVec F S128 .f32) (main_arg4 : FVec F S_ .f32) (main_arg5 : FVec F S128x128 .f32) (main_arg6 : FVec F S128 .f32) (main_arg7 : FVec F S_ .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S1x128 : Shape := ⟨2, ![1, 128]⟩
abbrev S1x1 : Shape := ⟨2, ![1, 1]⟩
abbrev S10080x10000 : Shape := ⟨2, ![10080, 10000]⟩
abbrev S480x10000 : Shape := ⟨2, ![480, 10000]⟩
abbrev S480x128 : Shape := ⟨2, ![480, 128]⟩

abbrev nBuf : Space → Nat
  | .hbm => 17
  | .vmem => 21
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x1, .f32⟩
  | .hbm, ⟨11, _⟩ => ⟨S1x128, .f32⟩
  | .hbm, ⟨12, _⟩ => ⟨S1x1, .f32⟩
  | .hbm, ⟨13, _⟩ => ⟨S1x128, .f32⟩
  | .hbm, ⟨14, _⟩ => ⟨S10000x128, .f32⟩
  | .hbm, ⟨15, _⟩ => ⟨S10080x10000, .i8⟩
  | .hbm, ⟨16, _⟩ => ⟨S10000x128, .f32⟩
  | .local _ .vmem, ⟨0, _⟩ => ⟨S480x10000, .f32⟩
  | .local _ .vmem, ⟨1, _⟩ => ⟨S480x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S480x128, .f32⟩
  | .local _ .vmem, ⟨7, _⟩ => ⟨S480x128, .f32⟩
  | .local _ .vmem, ⟨8, _⟩ => ⟨S480x10000, .i8⟩
  | .local _ .vmem, ⟨9, _⟩ => ⟨S480x10000, .i8⟩
  | .local _ .vmem, ⟨10, _⟩ => ⟨S10000x128, .f32⟩
  | .local _ .vmem, ⟨11, _⟩ => ⟨S480x10000, .i8⟩
  | .local _ .vmem, ⟨12, _⟩ => ⟨S480x10000, .i8⟩
  | .local _ .vmem, ⟨13, _⟩ => ⟨S10000x128, .f32⟩
  | .local _ .vmem, ⟨14, _⟩ => ⟨S128x128, .f32⟩
  | .local _ .vmem, ⟨15, _⟩ => ⟨S1x128, .f32⟩
  | .local _ .vmem, ⟨16, _⟩ => ⟨S1x128, .f32⟩
  | .local _ .vmem, ⟨17, _⟩ => ⟨S480x128, .f32⟩
  | .local _ .vmem, ⟨18, _⟩ => ⟨S480x128, .f32⟩
  | .local _ .vmem, ⟨19, _⟩ => ⟨S10000x128, .bf16⟩
  | .local _ .vmem, ⟨20, _⟩ => ⟨S1x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc1_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![21], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S480x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S480x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S480x10000 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![21], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S480x10000 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S480x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== KernelIdeal.lean ====
variable {F : FTy → Type} [FloatOps F] [Named F]
def κ : String → Option EReal := fun
  | "c128_255" => some ((128 / 255 : ℝ) : EReal)
  | "inv255" => some ((1 / 255 : ℝ) : EReal)
  | _ => none
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S1x128 : Shape := ⟨2, ![1, 128]⟩

abbrev nBuf : Space → Nat
  | .hbm => 47
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S128x128, .f32⟩
  | .hbm, ⟨9, _⟩ => ⟨S10000x128, .f32⟩
  | .hbm, ⟨10, _⟩ => ⟨S10000x128, .f32⟩
  | .hbm, ⟨11, _⟩ => ⟨S1x128, .f32⟩
  | .hbm, ⟨12, _⟩ => ⟨S10000x128, .f32⟩
  | .hbm, ⟨13, _⟩ => ⟨S10000x128, .f32⟩
  | .hbm, ⟨14, _⟩ => ⟨S_, .f32⟩
  | .hbm, ⟨15, _⟩ => ⟨S10000x128, .f32⟩
  | .hbm, ⟨16, _⟩ => ⟨S10000x128, .i1⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S128x128, .f32⟩
  | .hbm, ⟨21, _⟩ => ⟨S10000x128, .f32⟩
  | .hbm, ⟨22, _⟩ => ⟨S_, .f32⟩
  | .hbm, ⟨23, _⟩ => ⟨S10000x10000, .f32⟩
  | .hbm, ⟨24, _⟩ => ⟨S10000x10000, .f32⟩
  | .hbm, ⟨25, _⟩ => ⟨S10000x10000, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S10000x10000, .f32⟩
  | .hbm, ⟨30, _⟩ => ⟨S10000x10000, .f32⟩
  | .hbm, ⟨31, _⟩ => ⟨S_, .f32⟩
  | .hbm, ⟨32, _⟩ => ⟨S10000x10000, .f32⟩
  | .hbm, ⟨33, _⟩ => ⟨S10000x10000, .f32⟩
  | .hbm, ⟨34, _⟩ => ⟨S_, .f32⟩
  | .hbm, ⟨35, _⟩ => ⟨S10000x10000, .f32⟩
  | .hbm, ⟨36, _⟩ => ⟨S10000x10000, .f32⟩
  | .hbm, ⟨37, _⟩ => ⟨S10000x128, .f32⟩
  | .hbm, ⟨38, _⟩ => ⟨S1x128, .f32⟩
  | .hbm, ⟨39, _⟩ => ⟨S10000x128, .f32⟩
  | .hbm, ⟨40, _⟩ => ⟨S10000x128, .f32⟩
  | .hbm, ⟨41, _⟩ => ⟨S_, .f32⟩
  | .hbm, ⟨42, _⟩ => ⟨S10000x128, .f32⟩
  | .hbm, ⟨43, _⟩ => ⟨S10000x128, .i1⟩
  | .hbm, ⟨44, _⟩ => ⟨S10000x128, .f32⟩
  | .hbm, ⟨45, _⟩ => ⟨S10000x128, .f32⟩
  | .hbm, ⟨46, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_cst_2 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩

abbrev nD : Nat := 1
abbrev τ : Topo := Topo.v7x

variable {F : FTy → Type} [FloatOps F]
-- ==== Proof.PI.Rules.lean ====
/-
  Loads and stores of a whole memref held as contents: the two steps the kernel bodies are made of.
-/
module

public import proofs.«01_k».proof.Proof.Gen.KernelIdeal.Regions
public import proofs.«01_k».proof.Proof.Gen.KernelIdeal.Points
public import proofs.«01_k».proof.Proof.Gen.KernelIdeal.Skeleton
public import Idealize.ShloMosaic.Lib.Tactic

@[expose] public section

noncomputable section

namespace Cert.Proof.PI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- Two copies of the rounds algebra: one region takes its staging cells from the first, the other from the second. -/
abbrev UU : Type := UR sig nD τ × UR sig nD τ

local notation "𝕄" => MT nD τ sig Unit (Elt F) ℕ UU ℕ

/-- A load of a whole memref at offset zero reads what it holds. -/
theorem wp_loadW (𝒱 : Variants) (c : Dev nD) {cs : CoreSpace} {s : Shape} {e : EltTy} {M : Memref sig .tc cs s e} (hM : M.IsWhole)
    {off : Fin s.rank → ℕ} (h0 : off = fun _ => 0) (inb : ∀ a, off a + s.size a ≤ s.size a)
    {hl : M.view.LoadsAt (Rect.unit off s.size inb).toLoadRect} {α : Type} {Q : α → sProp 𝕄}
    {k : (s.Idx → Elt F e) → Prog (TpuEff nD τ sig (Elt F) Λ₀ .tc) α} (X : s.Idx → Elt F e) :
    (owns (c : Thread nD τ) M fullShare X : sProp 𝕄)
      ⊢ iprop((owns (c : Thread nD τ) M fullShare X -∗ wp frame (wpE (defs₀ (F := F)) 𝒱 (c : Thread nD τ) none) Set.univ (k X) Q)
        -∗ wp frame (wpE (defs₀ (F := F)) 𝒱 (c : Thread nD τ) none) Set.univ (.op (.load M (Rect.unit off s.size inb).toLoadRect hl) k) Q) := by
  obtain ⟨⟨sp', i, hn⟩, hsp, rfl, rfl, h⟩ := hM
  subst hsp; cases h
  have e0 := fun f => Memref.readAt_unit_zero (Elt F) ⟨(cs : Space), i, hn⟩ h0 inb f
  rw [owns_whole_eq]
  iintro H Hk
  icases H with ⟨%f, %hf, H⟩
  subst hf
  iapply (wp_load 𝒱 (c : Thread nD τ) none Set.univ (m := Memref.whole ⟨(cs : Space), i, hn⟩) (Finset.subset_univ _)) $$ H
  iintro H
  erw [e0 f]
  iapply Hk
  iexists f
  isplitr; · (ipureintro; rfl)
  iexact H

/-- A store over a whole memref at offset zero replaces what it holds. -/
theorem wp_storeW (𝒱 : Variants) (c : Dev nD) {cs : CoreSpace} {s : Shape} {e : EltTy} {M : Memref sig .tc cs s e} (hM : M.IsWhole)
    {off : Fin s.rank → ℕ} (h0 : off = fun _ => 0) (inb : ∀ a, off a + s.size a ≤ s.size a) {w : s.Idx → Elt F e}
    {hx : (M.access (Rect.unit off s.size inb)).Stores Finset.univ} {hm} {α : Type} {Q : α → sProp 𝕄}
    {k : PUnit → Prog (TpuEff nD τ sig (Elt F) Λ₀ .tc) α} (X : s.Idx → Elt F e) :
    (owns (c : Thread nD τ) M fullShare X : sProp 𝕄)
      ⊢ iprop((owns (c : Thread nD τ) M fullShare w -∗ wp frame (wpE (defs₀ (F := F)) 𝒱 (c : Thread nD τ) none) Set.univ (k ⟨⟩) Q)
        -∗ wp frame (wpE (defs₀ (F := F)) 𝒱 (c : Thread nD τ) none) Set.univ (.op (.store M (Rect.unit off s.size inb) w Finset.univ hx hm) k) Q) := by
  obtain ⟨⟨sp', i, hn⟩, hsp, rfl, rfl, h⟩ := hM
  subst hsp; cases h
  have e0 := fun f => Memref.write_access_unit_zero_univ (Elt F) ⟨(cs : Space), i, hn⟩ h0 inb f w
  rw [owns_whole_eq, owns_whole_eq]
  iintro H Hk
  icases H with ⟨%f, %hf, H⟩
  subst hf
  iapply (wp_store 𝒱 (c : Thread nD τ) none Set.univ (m := Memref.whole ⟨(cs : Space), i, hn⟩) (r := Rect.unit off _ inb) (Mk := Finset.univ) (Finset.subset_univ _)) $$ H
  iintro H
  erw [e0 f]
  iapply Hk
  iexists w
  isplitr; · (ipureintro; rfl)
  iexact H

end Cert.Proof.PI
-- ==== Proof.PI.Bodies.lean ====
/-
  The two kernel bodies on whole memrefs: what each leaves, at the first grid point (where the carried scratch
  is filled) and at a later one (where it is read).
-/
module

public import proofs.«01_k».proof.Proof.PI.Rules

@[expose] public section

set_option maxRecDepth 16384

noncomputable section

namespace Cert.Proof.PI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- No variant is in use: the bodies call no label. -/
abbrev 𝒱₀ : Variants := Variants.none

theorem hz2 : (![0, 0] : Fin 2 → ℕ) = fun _ => 0 := funext fun a => by fin_cases a <;> rfl

/-- The condition both bodies branch on: the grid coordinate is zero. -/
abbrev atFirst (n : ℕ) : Prop :=
  (Scalar.cmpi .ne (Scalar.extui (Scalar.cmpi .eq (BitVec.ofNat 32 n) 0#32) : BitVec 32) 0#32 : BitVec 1) = 1#1

section Layer1

variable (c : Dev nD) (i : grid0.Coords)
  {M1 : Memref sig .tc .vmem S480x10000 .f32} (h1 : M1.IsWhole) {M2 : Memref sig .tc .vmem S10000x128 .f32} (h2 : M2.IsWhole)
  {M3 : Memref sig .tc .vmem S128x128 .f32} (h3 : M3.IsWhole) {M4 : Memref sig .tc .vmem S1x128 .f32} (h4 : M4.IsWhole)
  {M5 : Memref sig .tc .vmem S1x128 .f32} (h5 : M5.IsWhole) {M6 : Memref sig .tc .vmem S480x128 .f32} (h6 : M6.IsWhole)
  {M7 : Memref sig .tc .vmem S480x10000 .i8} (h7 : M7.IsWhole) {M8 : Memref sig .tc .vmem S10000x128 .f32} (h8 : M8.IsWhole)
  (A : FVec F S480x10000 .f32) (x : FVec F S10000x128 .f32) (w : FVec F S128x128 .f32) (b a : FVec F S1x128 .f32)
  (z : FVec F S480x128 .f32) (q : IVec S480x10000 8) (y : FVec F S10000x128 .f32)

/-- The later points of layer 1: the scratch holds the projected features `y` and is read. -/
theorem body0_later (hi : ¬ atFirst (i 0).val) (K : PUnit → sProp 𝕄) :
    iprop(owns (c : Thread nD τ) M1 fullShare A ∗ owns (c : Thread nD τ) M2 fullShare x ∗ owns (c : Thread nD τ) M3 fullShare w
        ∗ owns (c : Thread nD τ) M4 fullShare b ∗ owns (c : Thread nD τ) M5 fullShare a ∗ owns (c : Thread nD τ) M6 fullShare z
        ∗ owns (c : Thread nD τ) M7 fullShare q ∗ owns (c : Thread nD τ) M8 fullShare y
        ∗ (owns (c : Thread nD τ) M1 fullShare A ∗ owns (c : Thread nD τ) M2 fullShare x ∗ owns (c : Thread nD τ) M3 fullShare w
            ∗ owns (c : Thread nD τ) M4 fullShare b ∗ owns (c : Thread nD τ) M5 fullShare a
            ∗ owns (c : Thread nD τ) M6 fullShare (k0_pay3 A y b a)
            ∗ owns (c : Thread nD τ) M7 fullShare (k0_pay2 A) ∗ owns (c : Thread nD τ) M8 fullShare y -∗ K ⟨⟩))
      ⊢ wp frame (wpE (defs₀ (F := F)) 𝒱₀ (c : Thread nD τ) none) Set.univ (cc0__layer1_body i M1 h1 M2 h2 M3 h3 M4 h4 M5 h5 M6 h6 M7 h7 M8 h8) K := by
  rw [cc0__layer1_body_eq_skeleton]; unfold cc0__layer1_body_skel
  simp only [dif_neg hi, Prog.lift, Prog.bind_op, Prog.bind_ret, Prog.pure_eq_ret]
  iintro ⟨H1, H2, H3, H4, H5, H6, H7, H8, Hk⟩
  iapply (wp_loadW 𝒱₀ c h1 hz2 _ _) $$ H1; iintro H1
  iapply (wp_loadW 𝒱₀ c h7 hz2 _ _) $$ H7; iintro H7
  iapply (wp_storeW 𝒱₀ c h7 hz2 _ _) $$ H7; iintro H7
  iapply (wp_loadW 𝒱₀ c h8 hz2 _ _) $$ H8; iintro H8
  iapply (wp_loadW 𝒱₀ c h4 hz2 _ _) $$ H4; iintro H4
  iapply (wp_loadW 𝒱₀ c h5 hz2 _ _) $$ H5; iintro H5
  iapply (wp_loadW 𝒱₀ c h6 hz2 _ _) $$ H6; iintro H6
  iapply (wp_storeW 𝒱₀ c h6 hz2 _ _) $$ H6; iintro H6
  rw [wp_ret]; imodintro
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The first point of layer 1: the scratch is filled with `x · W1ᵀ`, then read. -/
theorem body0_first (hi : atFirst (i 0).val) (K : PUnit → sProp 𝕄) :
    iprop(owns (c : Thread nD τ) M1 fullShare A ∗ owns (c : Thread nD τ) M2 fullShare x ∗ owns (c : Thread nD τ) M3 fullShare w
        ∗ owns (c : Thread nD τ) M4 fullShare b ∗ owns (c : Thread nD τ) M5 fullShare a ∗ owns (c : Thread nD τ) M6 fullShare z
        ∗ owns (c : Thread nD τ) M7 fullShare q ∗ owns (c : Thread nD τ) M8 fullShare y
        ∗ (owns (c : Thread nD τ) M1 fullShare A ∗ owns (c : Thread nD τ) M2 fullShare x ∗ owns (c : Thread nD τ) M3 fullShare w
            ∗ owns (c : Thread nD τ) M4 fullShare b ∗ owns (c : Thread nD τ) M5 fullShare a
            ∗ owns (c : Thread nD τ) M6 fullShare (k0_pay3 A (k0_pay1 x w) b a)
            ∗ owns (c : Thread nD τ) M7 fullShare (k0_pay2 A) ∗ owns (c : Thread nD τ) M8 fullShare (k0_pay1 x w) -∗ K ⟨⟩))
      ⊢ wp frame (wpE (defs₀ (F := F)) 𝒱₀ (c : Thread nD τ) none) Set.univ (cc0__layer1_body i M1 h1 M2 h2 M3 h3 M4 h4 M5 h5 M6 h6 M7 h7 M8 h8) K := by
  rw [cc0__layer1_body_eq_skeleton]; unfold cc0__layer1_body_skel
  simp only [dif_pos hi, Prog.lift, Prog.bind_op, Prog.bind_ret, Prog.pure_eq_ret]
  iintro ⟨H1, H2, H3, H4, H5, H6, H7, H8, Hk⟩
  iapply (wp_loadW 𝒱₀ c h2 hz2 _ _) $$ H2; iintro H2
  iapply (wp_loadW 𝒱₀ c h3 hz2 _ _) $$ H3; iintro H3
  iapply (wp_loadW 𝒱₀ c h8 hz2 _ _) $$ H8; iintro H8
  iapply (wp_storeW 𝒱₀ c h8 hz2 _ _) $$ H8; iintro H8
  iapply (wp_loadW 𝒱₀ c h1 hz2 _ _) $$ H1; iintro H1
  iapply (wp_loadW 𝒱₀ c h7 hz2 _ _) $$ H7; iintro H7
  iapply (wp_storeW 𝒱₀ c h7 hz2 _ _) $$ H7; iintro H7
  iapply (wp_loadW 𝒱₀ c h8 hz2 _ _) $$ H8; iintro H8
  iapply (wp_loadW 𝒱₀ c h4 hz2 _ _) $$ H4; iintro H4
  iapply (wp_loadW 𝒱₀ c h5 hz2 _ _) $$ H5; iintro H5
  iapply (wp_loadW 𝒱₀ c h6 hz2 _ _) $$ H6; iintro H6
  iapply (wp_storeW 𝒱₀ c h6 hz2 _ _) $$ H6; iintro H6
  rw [wp_ret]; imodintro
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Layer1

section Layer2

variable (c : Dev nD) (i : grid1.Coords)
  {M1 : Memref sig .tc .vmem S480x10000 .i8} (h1 : M1.IsWhole) {M2 : Memref sig .tc .vmem S10000x128 .f32} (h2 : M2.IsWhole)
  {M3 : Memref sig .tc .vmem S128x128 .f32} (h3 : M3.IsWhole) {M4 : Memref sig .tc .vmem S1x128 .f32} (h4 : M4.IsWhole)
  {M5 : Memref sig .tc .vmem S1x128 .f32} (h5 : M5.IsWhole) {M6 : Memref sig .tc .vmem S480x128 .f32} (h6 : M6.IsWhole)
  {M7 : Memref sig .tc .vmem S10000x128 .bf16} (h7 : M7.IsWhole) {M8 : Memref sig .tc .vmem S1x128 .f32} (h8 : M8.IsWhole)
  (q : IVec S480x10000 8) (z : FVec F S10000x128 .f32) (w : FVec F S128x128 .f32) (b a : FVec F S1x128 .f32)
  (o : FVec F S480x128 .f32) (y : FVec F S10000x128 .bf16) (e : FVec F S1x128 .f32)

/-- The later points of layer 2: both scratch buffers are read. -/
theorem body1_later (hi : ¬ atFirst (i 0).val) (K : PUnit → sProp 𝕄) :
    iprop(owns (c : Thread nD τ) M1 fullShare q ∗ owns (c : Thread nD τ) M2 fullShare z ∗ owns (c : Thread nD τ) M3 fullShare w
        ∗ owns (c : Thread nD τ) M4 fullShare b ∗ owns (c : Thread nD τ) M5 fullShare a ∗ owns (c : Thread nD τ) M6 fullShare o
        ∗ owns (c : Thread nD τ) M7 fullShare y ∗ owns (c : Thread nD τ) M8 fullShare e
        ∗ (owns (c : Thread nD τ) M1 fullShare q ∗ owns (c : Thread nD τ) M2 fullShare z ∗ owns (c : Thread nD τ) M3 fullShare w
            ∗ owns (c : Thread nD τ) M4 fullShare b ∗ owns (c : Thread nD τ) M5 fullShare a
            ∗ owns (c : Thread nD τ) M6 fullShare (k1_pay4 q y e a)
            ∗ owns (c : Thread nD τ) M7 fullShare y ∗ owns (c : Thread nD τ) M8 fullShare e -∗ K ⟨⟩))
      ⊢ wp frame (wpE (defs₀ (F := F)) 𝒱₀ (c : Thread nD τ) none) Set.univ (cc1__layer2_body i M1 h1 M2 h2 M3 h3 M4 h4 M5 h5 M6 h6 M7 h7 M8 h8) K := by
  rw [cc1__layer2_body_eq_skeleton]; unfold cc1__layer2_body_skel
  simp only [dif_neg hi, Prog.lift, Prog.bind_op, Prog.bind_ret, Prog.pure_eq_ret]
  iintro ⟨H1, H2, H3, H4, H5, H6, H7, H8, Hk⟩
  iapply (wp_loadW 𝒱₀ c h1 hz2 _ _) $$ H1; iintro H1
  iapply (wp_loadW 𝒱₀ c h7 hz2 _ _) $$ H7; iintro H7
  iapply (wp_loadW 𝒱₀ c h8 hz2 _ _) $$ H8; iintro H8
  iapply (wp_loadW 𝒱₀ c h5 hz2 _ _) $$ H5; iintro H5
  iapply (wp_loadW 𝒱₀ c h6 hz2 _ _) $$ H6; iintro H6
  iapply (wp_storeW 𝒱₀ c h6 hz2 _ _) $$ H6; iintro H6
  rw [wp_ret]; imodintro
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The first point of layer 2: the scratch buffers are filled with `z · W2ᵀ` and the effective bias, then read. -/
theorem body1_first (hi : atFirst (i 0).val) (K : PUnit → sProp 𝕄) :
    iprop(owns (c : Thread nD τ) M1 fullShare q ∗ owns (c : Thread nD τ) M2 fullShare z ∗ owns (c : Thread nD τ) M3 fullShare w
        ∗ owns (c : Thread nD τ) M4 fullShare b ∗ owns (c : Thread nD τ) M5 fullShare a ∗ owns (c : Thread nD τ) M6 fullShare o
        ∗ owns (c : Thread nD τ) M7 fullShare y ∗ owns (c : Thread nD τ) M8 fullShare e
        ∗ (owns (c : Thread nD τ) M1 fullShare q ∗ owns (c : Thread nD τ) M2 fullShare z ∗ owns (c : Thread nD τ) M3 fullShare w
            ∗ owns (c : Thread nD τ) M4 fullShare b ∗ owns (c : Thread nD τ) M5 fullShare a
            ∗ owns (c : Thread nD τ) M6 fullShare (k1_pay4 q (k1_pay2 z w) (k1_pay3 z w b) a)
            ∗ owns (c : Thread nD τ) M7 fullShare (k1_pay2 z w) ∗ owns (c : Thread nD τ) M8 fullShare (k1_pay3 z w b) -∗ K ⟨⟩))
      ⊢ wp frame (wpE (defs₀ (F := F)) 𝒱₀ (c : Thread nD τ) none) Set.univ (cc1__layer2_body i M1 h1 M2 h2 M3 h3 M4 h4 M5 h5 M6 h6 M7 h7 M8 h8) K := by
  rw [cc1__layer2_body_eq_skeleton]; unfold cc1__layer2_body_skel
  simp only [dif_pos hi, Prog.lift, Prog.bind_op, Prog.bind_ret, Prog.pure_eq_ret]
  iintro ⟨H1, H2, H3, H4, H5, H6, H7, H8, Hk⟩
  iapply (wp_loadW 𝒱₀ c h2 hz2 _ _) $$ H2; iintro H2
  iapply (wp_loadW 𝒱₀ c h3 hz2 _ _) $$ H3; iintro H3
  iapply (wp_loadW 𝒱₀ c h7 hz2 _ _) $$ H7; iintro H7
  iapply (wp_storeW 𝒱₀ c h7 hz2 _ _) $$ H7; iintro H7
  iapply (wp_loadW 𝒱₀ c h4 hz2 _ _) $$ H4; iintro H4
  iapply (wp_loadW 𝒱₀ c h8 hz2 _ _) $$ H8; iintro H8
  iapply (wp_storeW 𝒱₀ c h8 hz2 _ _) $$ H8; iintro H8
  iapply (wp_loadW 𝒱₀ c h1 hz2 _ _) $$ H1; iintro H1
  iapply (wp_loadW 𝒱₀ c h7 hz2 _ _) $$ H7; iintro H7
  iapply (wp_loadW 𝒱₀ c h8 hz2 _ _) $$ H8; iintro H8
  iapply (wp_loadW 𝒱₀ c h5 hz2 _ _) $$ H5; iintro H5
  iapply (wp_loadW 𝒱₀ c h6 hz2 _ _) $$ H6; iintro H6
  iapply (wp_storeW 𝒱₀ c h6 hz2 _ _) $$ H6; iintro H6
  rw [wp_ret]; imodintro
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Layer2

end Cert.Proof.PI
-- ==== Proof.PI.Layer1.lean ====
/-
  Layer 1 as a pipeline: what each window's staging buffer may hold, and the body's obligation at every point.
  The adjacency's last block overhangs its array, so what is staged there past the array's end is unknown (`d`);
  what the body leaves in its two output buffers is stated through it.
-/
module

public import proofs.«01_k».proof.Proof.PI.Bodies
public import Idealize.ShloMosaic.Lib.Pipeline.Regions

@[expose] public section

set_option maxRecDepth 16384

noncomputable section

namespace Cert.Proof.PI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F] [Named F]

local notation "𝕄" => MT nD τ sig Unit (Elt F) ℕ UU ℕ

variable (m : (ℓ : Loc nD τ sig) → Buf (Elt F) ℓ) (c : Dev nD)

/-- The first grid point. -/
abbrev t00 : Fin cfg0.N := ⟨0, by rw [show cfg0.N = 21 from N_0]; decide⟩

/-- The blocks fetched once: the features, the weights, the bias row and the slope row. -/
abbrev x0 : FVec F S10000x128 .f32 := (win0_1.blk t00).view.read (Elt F) (V1 m c main_arg0)
abbrev w0 : FVec F S128x128 .f32 := (win0_2.blk t00).view.read (Elt F) (V1 m c main_arg2)
abbrev b0 : FVec F S1x128 .f32 := (win0_3.blk t00).view.read (Elt F) (V1 m c main_v0)
abbrev a0 : FVec F S1x128 .f32 := (win0_4.blk t00).view.read (Elt F) (V1 m c main_v3)

/-- The projected features the scratch carries. -/
def y0 : FVec F S10000x128 .f32 := k0_pay1 (x0 m c) (w0 m c)

/-- The adjacency rows staged at a point: the array's, and `d` past its end. -/
def adjAt (t : Fin cfg0.N) (d : S480x10000.Idx → Elt F .f32) : FVec F S480x10000 .f32 :=
  win0_0.fill (cfg0.grid.coords t) d ((win0_0.blk t).view.read (Elt F) (V1 m c main_arg1))

/-- A buffer of the core at some contents. -/
abbrev someBuf (b : Ref sig .tc) : sProp 𝕄 := iprop(∃ f : Buf (Elt F) ((c : Thread nD τ).loc b), ((c : Thread nD τ).loc b) ↦{fullShare} f)

/-- The other region's scoped buffers, which layer 1 does not touch. -/
def rest0 : sProp 𝕄 :=
  iprop(someBuf (F := F) c cc1_stg0_0 ∗ someBuf (F := F) c cc1_stg0_1 ∗ someBuf (F := F) c cc1_stg1_0 ∗ someBuf (F := F) c cc1_stg2_0
    ∗ someBuf (F := F) c cc1_stg3_0 ∗ someBuf (F := F) c cc1_stg4_0 ∗ someBuf (F := F) c cc1_stg5_0 ∗ someBuf (F := F) c cc1_stg5_1
    ∗ someBuf (F := F) c cc1_scratch0 ∗ someBuf (F := F) c cc1_scratch1)

/-- The carried scratch before point `n`: anything before the first, the projected features after it. -/
def carried0 (n : ℕ) : sProp 𝕄 :=
  if n = 0 then iprop(∃ d, owns (c : Thread nD τ) (Memref.whole cc0_scratch0) fullShare d)
  else owns (c : Thread nD τ) (Memref.whole cc0_scratch0) fullShare (y0 m c)

/-- What the body may leave in each window's buffer: an input's its block, an output's the body's value over the
    staged adjacency rows. -/
def after0 : (w : Fin cfg0.W) → Fin cfg0.N → (Y X : (cfg0.win w).block.Idx → Elt F (cfg0.win w).elt) → Prop := fun
  | 0 => fun _ Y X => X = Y
  | 1 => fun _ _ X => X = x0 m c
  | 2 => fun _ _ X => X = w0 m c
  | 3 => fun _ _ X => X = b0 m c
  | 4 => fun _ _ X => X = a0 m c
  | 5 => fun t _ X => ∃ d, X = k0_pay3 (adjAt m c t d) (y0 m c) (b0 m c) (a0 m c)
  | 6 => fun t _ X => ∃ d, X = k0_pay2 (adjAt m c t d)
  | ⟨_ + 7, h⟩ => absurd h (Nat.not_lt.2 (Nat.le_add_left _ _))

/-- Layer 1's proof data. -/
def rd0 : RDat τ (Elt F) Unit ℕ UU ℕ cfg0 c where
  A w := V1 m c (Pipeline.arrRef spec0 w)
  after := after0 m c
  Φ t := iprop(carried0 m c t.val ∗ rest0 c)
  q _ := fullShare
  owed _ := 0

/-- A window fetched at the first point only holds its block at every point. -/
theorem finds0_const (w : Fin cfg0.W) (X₀ : (cfg0.win w).block.Idx → Elt F (cfg0.win w).elt)
    (hfetch : ∀ t : Fin cfg0.N, (cfg0.win w).fetch t = true ↔ t.val % 21 = 0) (hin : ∀ t, (cfg0.win w).flush t = false)
    (h0 : ∀ d, (rd0 m c).fetched w t00 d = X₀) (hafter : ∀ t Y X, after0 m c w t Y X → X = X₀)
    (t : Fin cfg0.N) (Y : (cfg0.win w).block.Idx → Elt F (cfg0.win w).elt) (h : (rd0 m c).Finds w t Y) : Y = X₀ := by
  have hN : cfg0.N = 21 := N_0
  by_cases ht : t.val = 0
  · have e : t = t00 := Fin.ext ht
    subst e
    obtain ⟨d, rfl⟩ := ((rd0 m c).finds_of_fetch ((hfetch _).2 rfl) _).1 h
    exact h0 d
  · have hf : (cfg0.win w).fetch t = false := by
      rw [Bool.eq_false_iff]; intro hh; have := (hfetch t).1 hh; have := t.isLt; omega
    rcases ((rd0 m c).finds_of_pos hf ht Y).1 h with h' | ⟨Y', -, h'⟩
    · rw [hin] at h'; exact absurd h' (by decide)
    · exact hafter _ _ _ h'

theorem atFirst0_iff : ∀ t : Fin cfg0.N, atFirst ((grid0.coords t) 0).val ↔ t.val = 0 := by decide

theorem finds0_0 (t : Fin cfg0.N) (Y) (h : (rd0 m c).Finds 0 t Y) : ∃ d, Y = adjAt m c t d := by
  obtain ⟨d, rfl⟩ := ((rd0 m c).finds_of_fetch (fetch0_0 t) _).1 h
  exact ⟨d, rfl⟩

theorem finds0_1 (t : Fin cfg0.N) (Y) (h : (rd0 m c).Finds 1 t Y) : Y = x0 m c :=
  finds0_const m c 1 _ fetch0_1 (by intro t; rfl) (fun _ => rfl) (fun _ _ _ h => h) t Y h
theorem finds0_2 (t : Fin cfg0.N) (Y) (h : (rd0 m c).Finds 2 t Y) : Y = w0 m c :=
  finds0_const m c 2 _ fetch0_2 (by intro t; rfl) (fun _ => rfl) (fun _ _ _ h => h) t Y h
theorem finds0_3 (t : Fin cfg0.N) (Y) (h : (rd0 m c).Finds 3 t Y) : Y = b0 m c :=
  finds0_const m c 3 _ fetch0_3 (by intro t; rfl) (fun _ => rfl) (fun _ _ _ h => h) t Y h
theorem finds0_4 (t : Fin cfg0.N) (Y) (h : (rd0 m c).Finds 4 t Y) : Y = a0 m c :=
  finds0_const m c 4 _ fetch0_4 (by intro t; rfl) (fun _ => rfl) (fun _ _ _ h => h) t Y h

theorem defs₀_row0 (t : Fin cfg0.N) : defs₀ (F := F) .tc cfg0.body (cfg0.bodyArgs t (cfg0.slots t)) = bodyAt0 t := rfl

/-- The body at a point, from every window's buffer. -/
theorem body0_at (t : Fin cfg0.N) (d : S480x10000.Idx → Elt F .f32) (z : FVec F S480x128 .f32) (q : IVec S480x10000 8) (K : PUnit → sProp 𝕄) :
    iprop(carried0 m c t.val
        ∗ owns (c : Thread nD τ) (st0_0 t) fullShare (adjAt m c t d) ∗ owns (c : Thread nD τ) (st0_1 t) fullShare (x0 m c)
        ∗ owns (c : Thread nD τ) (st0_2 t) fullShare (w0 m c) ∗ owns (c : Thread nD τ) (st0_3 t) fullShare (b0 m c)
        ∗ owns (c : Thread nD τ) (st0_4 t) fullShare (a0 m c) ∗ owns (c : Thread nD τ) (st0_5 t) fullShare z
        ∗ owns (c : Thread nD τ) (st0_6 t) fullShare q
        ∗ (carried0 m c (t.val + 1)
            ∗ owns (c : Thread nD τ) (st0_0 t) fullShare (adjAt m c t d) ∗ owns (c : Thread nD τ) (st0_1 t) fullShare (x0 m c)
            ∗ owns (c : Thread nD τ) (st0_2 t) fullShare (w0 m c) ∗ owns (c : Thread nD τ) (st0_3 t) fullShare (b0 m c)
            ∗ owns (c : Thread nD τ) (st0_4 t) fullShare (a0 m c)
            ∗ owns (c : Thread nD τ) (st0_5 t) fullShare (k0_pay3 (adjAt m c t d) (y0 m c) (b0 m c) (a0 m c))
            ∗ owns (c : Thread nD τ) (st0_6 t) fullShare (k0_pay2 (adjAt m c t d)) -∗ K ⟨⟩))
      ⊢ wp frame (wpE (defs₀ (F := F)) 𝒱₀ (c : Thread nD τ) none) Set.univ (bodyAt0 t) K := by
  by_cases ht : t.val = 0
  · unfold carried0
    rw [if_pos ht, if_neg (Nat.succ_ne_zero _)]
    iintro ⟨⟨%s, H8⟩, H1, H2, H3, H4, H5, H6, H7, Hk⟩
    iapply (body0_first c (grid0.coords t) _ _ _ _ _ _ _ _ (adjAt m c t d) (x0 m c) (w0 m c) (b0 m c) (a0 m c) z q s
      ((atFirst0_iff t).2 ht) K)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H1, H2, H3, H4, H5, H6, H7, H8⟩
    iapply Hk
    isplitl [H8]; · iexact H8
    isplitl [H1]; · iexact H1
    isplitl [H2]; · iexact H2
    isplitl [H3]; · iexact H3
    isplitl [H4]; · iexact H4
    isplitl [H5]; · iexact H5
    isplitl [H6]; · iexact H6
    iexact H7
  · unfold carried0
    rw [if_neg ht, if_neg (Nat.succ_ne_zero _)]
    iintro ⟨H8, H1, H2, H3, H4, H5, H6, H7, Hk⟩
    iapply (body0_later c (grid0.coords t) _ _ _ _ _ _ _ _ (adjAt m c t d) (x0 m c) (w0 m c) (b0 m c) (a0 m c) z q (y0 m c)
      (fun h => ht ((atFirst0_iff t).1 h)) K)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H1, H2, H3, H4, H5, H6, H7, H8⟩
    iapply Hk
    isplitl [H8]; · iexact H8
    isplitl [H1]; · iexact H1
    isplitl [H2]; · iexact H2
    isplitl [H3]; · iexact H3
    isplitl [H4]; · iexact H4
    isplitl [H5]; · iexact H5
    isplitl [H6]; · iexact H6
    iexact H7

/-- The body's obligation at every point of layer 1. -/
theorem body_obligation0 : (rd0 m c).BodyObligation (defs₀ (F := F)) 𝒱₀ () Set.univ := by
  intro t Y hY
  rw [bigSep_W0, bigSep_W0, defs₀_row0]
  obtain ⟨d, h0⟩ := finds0_0 m c t _ (hY 0)
  have h1 := finds0_1 m c t _ (hY 1)
  have h2 := finds0_2 m c t _ (hY 2)
  have h3 := finds0_3 m c t _ (hY 3)
  have h4 := finds0_4 m c t _ (hY 4)
  rw [h0, h1, h2, h3, h4,
    show (rd0 m c).Φ t.castSucc = iprop(carried0 m c t.val ∗ rest0 c) from rfl,
    show (rd0 m c).Φ t.succ = iprop(carried0 m c (t.val + 1) ∗ rest0 c) from rfl,
    show (rd0 m c).owesAt () t.succ = (rd0 m c).owesAt () t.castSucc from rfl]
  iintro ⟨⟨H8, Hr⟩, Ho, H0, H1, H2, H3, H4, H5, H6⟩
  iapply (body0_at m c t d (Y 5) (Y 6) _)
  isplitl [H8]; · iexact H8
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H8, H0, H1, H2, H3, H4, H5, H6⟩
  isplitl [H8 Hr]
  · isplitl [H8]; · iexact H8
    iexact Hr
  isplitl [Ho]; · iexact Ho
  isplitl [H0]
  · iexists _; isplitr; · (ipureintro; exact rfl)
    iexact H0
  isplitl [H1]
  · iexists _; isplitr; · (ipureintro; exact rfl)
    iexact H1
  isplitl [H2]
  · iexists _; isplitr; · (ipureintro; exact rfl)
    iexact H2
  isplitl [H3]
  · iexists _; isplitr; · (ipureintro; exact rfl)
    iexact H3
  isplitl [H4]
  · iexists _; isplitr; · (ipureintro; exact rfl)
    iexact H4
  isplitl [H5]
  · iexists _; isplitr; · (ipureintro; exact ⟨d, rfl⟩)
    iexact H5
  iexists _; isplitr; · (ipureintro; exact ⟨d, rfl⟩)
  iexact H6

end Cert.Proof.PI
-- ==== Proof.PI.Layer2.lean ====
/-
  Layer 2 as a pipeline, entered with layer 1's two arrays at any contents `z`, `q`: what each window's staging
  buffer may hold, and the body's obligation at every point. No input block is cut, so every staged input is the
  array's own block.
-/
module

public import proofs.«01_k».proof.Proof.PI.Layer1

@[expose] public section

set_option maxRecDepth 16384

noncomputable section

namespace Cert.Proof.PI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F] [Named F]

local notation "𝕄" => MT nD τ sig Unit (Elt F) ℕ UU ℕ

variable (m : (ℓ : Loc nD τ sig) → Buf (Elt F) ℓ) (c : Dev nD)
  (z : Buf (Elt F) ((c : Thread nD τ).loc main_v6_0)) (q : Buf (Elt F) ((c : Thread nD τ).loc main_v6_1))

/-- The core's unscoped buffers after layer 1, whose two arrays hold `z` and `q`. -/
abbrev W2 : Valuation τ sig (Elt F) := Function.update (Function.update (V1 m c) main_v6_0 z) main_v6_1 q

/-- The first grid point. -/
abbrev t01 : Fin cfg1.N := ⟨0, by rw [show cfg1.N = 21 from N_1]; decide⟩

/-- The blocks fetched once: layer 1's result, the weights, the bias row and the slope row. -/
abbrev z1 : FVec F S10000x128 .f32 := (win1_1.blk t01).view.read (Elt F) (W2 m c z q main_v6_0)
abbrev w1 : FVec F S128x128 .f32 := (win1_2.blk t01).view.read (Elt F) (W2 m c z q main_arg5)
abbrev b1 : FVec F S1x128 .f32 := (win1_3.blk t01).view.read (Elt F) (W2 m c z q main_v1)
abbrev a1 : FVec F S1x128 .f32 := (win1_4.blk t01).view.read (Elt F) (W2 m c z q main_v5)

/-- The projected features and the effective bias the two scratch buffers carry. -/
def y1 : FVec F S10000x128 .bf16 := k1_pay2 (z1 m c z q) (w1 m c z q)
def e1 : FVec F S1x128 .f32 := k1_pay3 (z1 m c z q) (w1 m c z q) (b1 m c z q)

/-- The quantised adjacency rows staged at a point. -/
def qAt (t : Fin cfg1.N) : IVec S480x10000 8 := (win1_0.blk t).view.read (Elt F) (W2 m c z q main_v6_1)

/-- What the body leaves in the result's buffer at a point. -/
def outAt (t : Fin cfg1.N) : FVec F S480x128 .f32 := k1_pay4 (qAt m c z q t) (y1 m c z q) (e1 m c z q) (a1 m c z q)

/-- The other region's scoped buffers, which layer 2 does not touch. -/
def rest1 : sProp 𝕄 :=
  iprop(someBuf (F := F) c cc0_stg0_0 ∗ someBuf (F := F) c cc0_stg0_1 ∗ someBuf (F := F) c cc0_stg1_0 ∗ someBuf (F := F) c cc0_stg2_0
    ∗ someBuf (F := F) c cc0_stg3_0 ∗ someBuf (F := F) c cc0_stg4_0 ∗ someBuf (F := F) c cc0_stg5_0 ∗ someBuf (F := F) c cc0_stg5_1
    ∗ someBuf (F := F) c cc0_stg6_0 ∗ someBuf (F := F) c cc0_stg6_1 ∗ someBuf (F := F) c cc0_scratch0)

/-- The carried scratch before point `n`: anything before the first, the projected features and the effective bias
    after it. -/
def carried1 (n : ℕ) : sProp 𝕄 :=
  if n = 0 then iprop((∃ d, owns (c : Thread nD τ) (Memref.whole cc1_scratch0) fullShare d)
    ∗ (∃ d, owns (c : Thread nD τ) (Memref.whole cc1_scratch1) fullShare d))
  else iprop(owns (c : Thread nD τ) (Memref.whole cc1_scratch0) fullShare (y1 m c z q)
    ∗ owns (c : Thread nD τ) (Memref.whole cc1_scratch1) fullShare (e1 m c z q))

/-- What the body may leave in each window's buffer: an input's its block, the result's the body's value. -/
def after1 : (w : Fin cfg1.W) → Fin cfg1.N → (Y X : (cfg1.win w).block.Idx → Elt F (cfg1.win w).elt) → Prop := fun
  | 0 => fun _ Y X => X = Y
  | 1 => fun _ _ X => X = z1 m c z q
  | 2 => fun _ _ X => X = w1 m c z q
  | 3 => fun _ _ X => X = b1 m c z q
  | 4 => fun _ _ X => X = a1 m c z q
  | 5 => fun t _ X => X = outAt m c z q t
  | ⟨_ + 6, h⟩ => absurd h (Nat.not_lt.2 (Nat.le_add_left _ _))

/-- Layer 2's proof data. -/
def rd1 : RDat τ (Elt F) Unit ℕ UU ℕ cfg1 c where
  A w := W2 m c z q (Pipeline.arrRef spec1 w)
  after := after1 m c z q
  Φ t := iprop(carried1 m c z q t.val ∗ rest1 c)
  q _ := fullShare
  owed _ := 0

/-- A window fetched at the first point only holds its block at every point. -/
theorem finds1_const (w : Fin cfg1.W) (X₀ : (cfg1.win w).block.Idx → Elt F (cfg1.win w).elt)
    (hfetch : ∀ t : Fin cfg1.N, (cfg1.win w).fetch t = true ↔ t.val % 21 = 0) (hin : ∀ t, (cfg1.win w).flush t = false)
    (h0 : ∀ d, (rd1 m c z q).fetched w t01 d = X₀) (hafter : ∀ t Y X, after1 m c z q w t Y X → X = X₀)
    (t : Fin cfg1.N) (Y : (cfg1.win w).block.Idx → Elt F (cfg1.win w).elt) (h : (rd1 m c z q).Finds w t Y) : Y = X₀ := by
  have hN : cfg1.N = 21 := N_1
  by_cases ht : t.val = 0
  · have e : t = t01 := Fin.ext ht
    subst e
    obtain ⟨d, rfl⟩ := ((rd1 m c z q).finds_of_fetch ((hfetch _).2 rfl) _).1 h
    exact h0 d
  · have hf : (cfg1.win w).fetch t = false := by
      rw [Bool.eq_false_iff]; intro hh; have := (hfetch t).1 hh; have := t.isLt; omega
    rcases ((rd1 m c z q).finds_of_pos hf ht Y).1 h with h' | ⟨Y', -, h'⟩
    · rw [hin] at h'; exact absurd h' (by decide)
    · exact hafter _ _ _ h'

theorem atFirst1_iff : ∀ t : Fin cfg1.N, atFirst ((grid1.coords t) 0).val ↔ t.val = 0 := by decide

theorem finds1_0 (t : Fin cfg1.N) (Y) (h : (rd1 m c z q).Finds 0 t Y) : Y = qAt m c z q t := by
  obtain ⟨d, rfl⟩ := ((rd1 m c z q).finds_of_fetch (fetch1_0 t) _).1 h
  rfl

theorem finds1_1 (t : Fin cfg1.N) (Y) (h : (rd1 m c z q).Finds 1 t Y) : Y = z1 m c z q :=
  finds1_const m c z q 1 _ fetch1_1 (by intro t; rfl) (fun _ => rfl) (fun _ _ _ h => h) t Y h
theorem finds1_2 (t : Fin cfg1.N) (Y) (h : (rd1 m c z q).Finds 2 t Y) : Y = w1 m c z q :=
  finds1_const m c z q 2 _ fetch1_2 (by intro t; rfl) (fun _ => rfl) (fun _ _ _ h => h) t Y h
theorem finds1_3 (t : Fin cfg1.N) (Y) (h : (rd1 m c z q).Finds 3 t Y) : Y = b1 m c z q :=
  finds1_const m c z q 3 _ fetch1_3 (by intro t; rfl) (fun _ => rfl) (fun _ _ _ h => h) t Y h
theorem finds1_4 (t : Fin cfg1.N) (Y) (h : (rd1 m c z q).Finds 4 t Y) : Y = a1 m c z q :=
  finds1_const m c z q 4 _ fetch1_4 (by intro t; rfl) (fun _ => rfl) (fun _ _ _ h => h) t Y h

theorem defs₀_row1 (t : Fin cfg1.N) : defs₀ (F := F) .tc cfg1.body (cfg1.bodyArgs t (cfg1.slots t)) = bodyAt1 t := rfl

/-- The body at a point, from every window's buffer. -/
theorem body1_at (t : Fin cfg1.N) (o : FVec F S480x128 .f32) (K : PUnit → sProp 𝕄) :
    iprop(carried1 m c z q t.val
        ∗ owns (c : Thread nD τ) (st1_0 t) fullShare (qAt m c z q t)
        ∗ owns (c : Thread nD τ) (st1_1 t) fullShare (z1 m c z q)
        ∗ owns (c : Thread nD τ) (st1_2 t) fullShare (w1 m c z q)
        ∗ owns (c : Thread nD τ) (st1_3 t) fullShare (b1 m c z q)
        ∗ owns (c : Thread nD τ) (st1_4 t) fullShare (a1 m c z q)
        ∗ owns (c : Thread nD τ) (st1_5 t) fullShare (o)
        ∗ (carried1 m c z q (t.val + 1)
            ∗ owns (c : Thread nD τ) (st1_0 t) fullShare (qAt m c z q t)
            ∗ owns (c : Thread nD τ) (st1_1 t) fullShare (z1 m c z q)
            ∗ owns (c : Thread nD τ) (st1_2 t) fullShare (w1 m c z q)
            ∗ owns (c : Thread nD τ) (st1_3 t) fullShare (b1 m c z q)
            ∗ owns (c : Thread nD τ) (st1_4 t) fullShare (a1 m c z q)
            ∗ owns (c : Thread nD τ) (st1_5 t) fullShare (outAt m c z q t) -∗ K ⟨⟩))
      ⊢ wp frame (wpE (defs₀ (F := F)) 𝒱₀ (c : Thread nD τ) none) Set.univ (bodyAt1 t) K := by
  by_cases ht : t.val = 0
  · unfold carried1
    rw [if_pos ht, if_neg (Nat.succ_ne_zero _)]
    iintro ⟨⟨⟨%s, H7⟩, ⟨%s', H8⟩⟩, H1, H2, H3, H4, H5, H6, Hk⟩
    iapply (body1_first c (grid1.coords t) _ _ _ _ _ _ _ _ (qAt m c z q t) (z1 m c z q) (w1 m c z q) (b1 m c z q) (a1 m c z q) o s s'
      ((atFirst1_iff t).2 ht) K)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H1, H2, H3, H4, H5, H6, H7, H8⟩
    iapply Hk
    isplitl [H7 H8]
    · isplitl [H7]; · iexact H7
      iexact H8
    isplitl [H1]; · iexact H1
    isplitl [H2]; · iexact H2
    isplitl [H3]; · iexact H3
    isplitl [H4]; · iexact H4
    isplitl [H5]; · iexact H5
    iexact H6
  · unfold carried1
    rw [if_neg ht, if_neg (Nat.succ_ne_zero _)]
    iintro ⟨⟨H7, H8⟩, H1, H2, H3, H4, H5, H6, Hk⟩
    iapply (body1_later c (grid1.coords t) _ _ _ _ _ _ _ _ (qAt m c z q t) (z1 m c z q) (w1 m c z q) (b1 m c z q) (a1 m c z q) o
      (y1 m c z q) (e1 m c z q) (fun h => ht ((atFirst1_iff t).1 h)) K)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H1, H2, H3, H4, H5, H6, H7, H8⟩
    iapply Hk
    isplitl [H7 H8]
    · isplitl [H7]; · iexact H7
      iexact H8
    isplitl [H1]; · iexact H1
    isplitl [H2]; · iexact H2
    isplitl [H3]; · iexact H3
    isplitl [H4]; · iexact H4
    isplitl [H5]; · iexact H5
    iexact H6

/-- The body's obligation at every point of layer 2. -/
theorem body_obligation1 : (rd1 m c z q).BodyObligation (defs₀ (F := F)) 𝒱₀ () Set.univ := by
  intro t Y hY
  rw [bigSep_W1, bigSep_W1, defs₀_row1]
  have h0 := finds1_0 m c z q t _ (hY 0)
  have h1 := finds1_1 m c z q t _ (hY 1)
  have h2 := finds1_2 m c z q t _ (hY 2)
  have h3 := finds1_3 m c z q t _ (hY 3)
  have h4 := finds1_4 m c z q t _ (hY 4)
  rw [h0, h1, h2, h3, h4,
    show (rd1 m c z q).Φ t.castSucc = iprop(carried1 m c z q t.val ∗ rest1 c) from rfl,
    show (rd1 m c z q).Φ t.succ = iprop(carried1 m c z q (t.val + 1) ∗ rest1 c) from rfl,
    show (rd1 m c z q).owesAt () t.succ = (rd1 m c z q).owesAt () t.castSucc from rfl]
  iintro ⟨⟨H8, Hr⟩, Ho, H0, H1, H2, H3, H4, H5⟩
  iapply (body1_at m c z q t (Y 5) _)
  isplitl [H8]; · iexact H8
  isplitl [H0]; · iexact H0
  isplitl [H1]; · iexact H1
  isplitl [H2]; · iexact H2
  isplitl [H3]; · iexact H3
  isplitl [H4]; · iexact H4
  isplitl [H5]; · iexact H5
  iintro ⟨H8, H0, H1, H2, H3, H4, H5⟩
  isplitl [H8 Hr]
  · isplitl [H8]; · iexact H8
    iexact Hr
  isplitl [Ho]; · iexact Ho
  isplitl [H0]
  · iexists _; isplitr; · (ipureintro; exact rfl)
    iexact H0
  isplitl [H1]
  · iexists _; isplitr; · (ipureintro; exact rfl)
    iexact H1
  isplitl [H2]
  · iexists _; isplitr; · (ipureintro; exact rfl)
    iexact H2
  isplitl [H3]
  · iexists _; isplitr; · (ipureintro; exact rfl)
    iexact H3
  isplitl [H4]
  · iexists _; isplitr; · (ipureintro; exact rfl)
    iexact H4
  iexists _; isplitr; · (ipureintro; exact rfl)
  iexact H5

end Cert.Proof.PI
-- ==== Proof.PI.Region.lean ====
/-
  The two regions as records of the launch: what each is entered from and what it leaves. Layer 1 leaves its two arrays
  at some contents its write-backs allow; layer 2 is entered at any such contents.
-/
module

public import proofs.«01_k».proof.Proof.PI.Layer2
public import Idealize.ShloMosaic.Lib.Pipeline.RegionArrays

@[expose] public section

set_option maxRecDepth 16384

noncomputable section

namespace Cert.Proof.PI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F] [Named F]

local notation "𝕄" => MT nD τ sig Unit (Elt F) ℕ UU ℕ

/-- Contents of layer 1's two arrays: its result and the quantised adjacency. -/
abbrev Arrs (F : FTy → Type) : Type := FVec F S10000x128 .f32 × IVec S10080x10000 8

variable (m : (ℓ : Loc nD τ sig) → Buf (Elt F) ℓ)

/-- Both regions' proof data, layer 2's at the contents `o`. -/
def rds (o : Arrs F) : (p : Fin 2) → (c : Dev nD) → RDat τ (Elt F) Unit ℕ UU ℕ (Pipeline.pin (pcfgs (F := F)) adm p) c := fun
  | 0 => fun c => rd0 m c
  | 1 => fun c => rd1 m c o.1 o.2
  | ⟨_ + 2, h⟩ => absurd h (Nat.not_lt.2 (Nat.le_add_left _ _))

theorem rds_share (o : Arrs F) (p : Fin 2) (c : Dev nD) (w) : (rds m o p c).share w = fullShare := by
  unfold RDat.share
  match p with
  | 0 => exact ite_self _
  | 1 => exact ite_self _

/-- The core owing nothing. -/
def noDues (c : Dev nD) : sProp 𝕄 := iprop(∃ W, owes (c : Thread nD τ) (0 : CellTallies nD τ sig Unit) W)

/-- The contents layer 1's write-backs allow. -/
def left0 (c : Dev nD) (o : Arrs F) : Prop := (rd0 m c).ArrAt 5 cfg0.N o.1 ∧ (rd0 m c).ArrAt 6 cfg0.N o.2

/-- The contents of the result layer 2's write-backs allow, entered at `o`. -/
def left1 (c : Dev nD) (o : Arrs F) (v : FVec F S10000x128 .f32) : Prop := (rd1 m c o.1 o.2).ArrAt 5 cfg1.N v

/-- The core's unscoped buffers at the end. -/
abbrev W3 (c : Dev nD) (o : Arrs F) (v : FVec F S10000x128 .f32) : Valuation τ sig (Elt F) :=
  Function.update (W2 m c o.1 o.2) main_v7 v

/-- The arrays a region leaves, each at contents its write-backs allow, named window by window. -/
theorem arraysAt_name (o : Arrs F) (p : Fin 2) (hA : ∀ w, ((Pipeline.pin (pcfgs (F := F)) adm p).spec w).arr.IsWhole) (c : Dev nD) (n : ℕ) :
    ((rds m o p c).arraysAt n : sProp 𝕄)
      ⊢ iprop(∃ G : (w : Fin (Pipeline.pin (pcfgs (F := F)) adm p).W) → Buf (Elt F) ((c : Thread nD τ).loc (Pipeline.arrRef (Pipeline.pin (pcfgs (F := F)) adm p).spec w)),
          ⌜∀ w, (rds m o p c).ArrAt w n (G w)⌝
          ∗ bigSep Finset.univ fun w => ((c : Thread nD τ).loc (Pipeline.arrRef (Pipeline.pin (pcfgs (F := F)) adm p).spec w)) ↦{fullShare} G w) := by
  rw [Pipeline.RDat.arraysAt_eq (pcfgs (F := F)) adm (rds m o) p c hA (rds_share m o p c) n]
  iintro H
  ihave H := (BI.bigSep_exists_pi Finset.univ (fun w (G : Buf (Elt F) ((c : Thread nD τ).loc (Pipeline.arrRef (Pipeline.pin (pcfgs (F := F)) adm p).spec w))) =>
    iprop(⌜(rds m o p c).ArrAt w n G⌝ ∗ (((c : Thread nD τ).loc (Pipeline.arrRef (Pipeline.pin (pcfgs (F := F)) adm p).spec w)) ↦{fullShare} G : sProp 𝕄)))) $$ H
  icases H with ⟨%G, H⟩
  ihave H := (BI.bigSep_pure_sep Finset.univ _ _) $$ H
  icases H with ⟨%hG, H⟩
  iexists G
  isplitr; · (ipureintro; exact fun w => hG w (Finset.mem_univ w))
  iexact H

/-- The buffers a region leaves: its arrays at `G` and the rest as before make the unscoped buffers at any contents that
    have them so. -/
theorem unscoped_join (p : Fin 2) (hw : Pipeline.WinFacts (Pipeline.pin (pcfgs (F := F)) adm p).spec) (c : Dev nD)
    (V V' : (b : Ref sig .tc) → Buf (Elt F) ((c : Thread nD τ).loc b))
    (G : (w : Fin (Pipeline.pin (pcfgs (F := F)) adm p).W) → Buf (Elt F) ((c : Thread nD τ).loc (Pipeline.arrRef (Pipeline.pin (pcfgs (F := F)) adm p).spec w)))
    (hG : ∀ w, V' (Pipeline.arrRef (Pipeline.pin (pcfgs (F := F)) adm p).spec w) = G w)
    (hV : ∀ b, (∀ w, b ≠ Pipeline.arrRef (Pipeline.pin (pcfgs (F := F)) adm p).spec w) → V' b = V b) :
    (iprop((bigSep Finset.univ fun w => ((c : Thread nD τ).loc (Pipeline.arrRef (Pipeline.pin (pcfgs (F := F)) adm p).spec w)) ↦{fullShare} G w)
        ∗ Pipeline.unscopedRest (Pipeline.pin (pcfgs (F := F)) adm p).spec c V) : sProp 𝕄)
      ⊢ unscopedBufs c V' := by
  rw [Pipeline.unscopedBufs_split (Pipeline.pin (pcfgs (F := F)) adm) p hw.arr_unscoped hw.arr_inj c V']
  refine BI.sep_mono (Entails.of_eq (bigSep_congr fun w _ => by rw [hG])) (Entails.of_eq (bigSep_congr fun b hb => ?_))
  rw [hV b fun w h => (Finset.mem_sdiff.mp hb).2 (h ▸ Finset.mem_image.mpr ⟨w, Finset.mem_univ _, rfl⟩)]

/-- A buffer owned at some contents, as a whole memref and as a points-to. -/
theorem owns_some (c : Dev nD) (b : Ref sig .tc) :
    (iprop(∃ d, owns (c : Thread nD τ) (Memref.whole b) fullShare d) : sProp 𝕄) ⊣⊢ someBuf (F := F) c b := by
  simp only [owns_whole_eq]
  constructor
  · iintro ⟨%d, %f, -, H⟩
    iexists f; iexact H
  · iintro ⟨%f, H⟩
    iexists f, f
    isplitr; · (ipureintro; rfl)
    iexact H

theorem owns_forget (c : Dev nD) (b : Ref sig .tc) (d : b.ty.Contents (Elt F)) :
    (owns (c : Thread nD τ) (Memref.whole b) fullShare d : sProp 𝕄) ⊢ someBuf (F := F) c b := by
  rw [owns_whole_eq]
  iintro ⟨%f, -, H⟩
  iexists f; iexact H

theorem W2_of (c : Dev nD) (z : FVec F S10000x128 .f32) (q : IVec S10080x10000 8) (r : Ref sig .tc) (h0 : r ≠ main_v6_0) (h1 : r ≠ main_v6_1) :
    W2 m c z q r = V1 m c r := by
  unfold W2
  rw [Function.update_of_ne (StableHlo.devRef_ne_of_ne h1), Function.update_of_ne (StableHlo.devRef_ne_of_ne h0)]

theorem W2_z (c : Dev nD) (z : FVec F S10000x128 .f32) (q : IVec S10080x10000 8) : W2 m c z q main_v6_0 = z := by
  unfold W2
  rw [Function.update_of_ne (StableHlo.devRef_ne_of_ne (by decide)), Function.update_self]

theorem W2_q (c : Dev nD) (z : FVec F S10000x128 .f32) (q : IVec S10080x10000 8) : W2 m c z q main_v6_1 = q := by
  unfold W2
  rw [Function.update_self]

theorem W3_of (c : Dev nD) (o : Arrs F) (v : FVec F S10000x128 .f32) (r : Ref sig .tc) (h : r ≠ main_v7) :
    W3 m c o v r = W2 m c o.1 o.2 r := by
  unfold W3
  rw [Function.update_of_ne (StableHlo.devRef_ne_of_ne h)]

theorem W3_v (c : Dev nD) (o : Arrs F) (v : FVec F S10000x128 .f32) : W3 m c o v main_v7 = v := by
  unfold W3
  rw [Function.update_self]

/-- Layer 1's arrays at the end of its run: the inputs as entered, its two results at `G`. -/
theorem join0 (o : Arrs F) (c : Dev nD) (G : (w : Fin (Pipeline.pin (pcfgs (F := F)) adm 0).W) → Buf (Elt F) ((c : Thread nD τ).loc (Pipeline.arrRef spec0 w)))
    (hG : ∀ w, (rds m o 0 c).ArrAt w cfg0.N (G w)) : ∀ w, W2 m c (G 5) (G 6) (Pipeline.arrRef spec0 w) = G w := by
  have hi : ∀ w : Fin cfg0.W, (cfg0.win w).isOut = false → G w = V1 m c (Pipeline.arrRef spec0 w) := fun w h => by
    have := hG w
    rw [Pipeline.RDat.ArrAt_in _ w h] at this
    exact this
  intro w
  match w with
  | 0 => exact (W2_of m c _ _ main_arg1 (by decide) (by decide)).trans (hi 0 rfl).symm
  | 1 => exact (W2_of m c _ _ main_arg0 (by decide) (by decide)).trans (hi 1 rfl).symm
  | 2 => exact (W2_of m c _ _ main_arg2 (by decide) (by decide)).trans (hi 2 rfl).symm
  | 3 => exact (W2_of m c _ _ main_v0 (by decide) (by decide)).trans (hi 3 rfl).symm
  | 4 => exact (W2_of m c _ _ main_v3 (by decide) (by decide)).trans (hi 4 rfl).symm
  | 5 => exact W2_z m c _ _
  | 6 => exact W2_q m c _ _
  | ⟨_ + 7, h⟩ => exact absurd h (Nat.not_lt.2 (Nat.le_add_left _ _))

theorem keep0 (c : Dev nD) (z : FVec F S10000x128 .f32) (q : IVec S10080x10000 8) (b : Ref sig .tc)
    (h : ∀ w, b ≠ Pipeline.arrRef spec0 w) : W2 m c z q b = V1 m c b :=
  W2_of m c z q b (h 5) (h 6)

/-- Layer 2's arrays at the end of its run: the inputs as entered, its result at `G`. -/
theorem join1 (o : Arrs F) (c : Dev nD) (G : (w : Fin (Pipeline.pin (pcfgs (F := F)) adm 1).W) → Buf (Elt F) ((c : Thread nD τ).loc (Pipeline.arrRef spec1 w)))
    (hG : ∀ w, (rds m o 1 c).ArrAt w cfg1.N (G w)) : ∀ w, W3 m c o (G 5) (Pipeline.arrRef spec1 w) = G w := by
  have hi : ∀ w : Fin cfg1.W, (cfg1.win w).isOut = false → G w = W2 m c o.1 o.2 (Pipeline.arrRef spec1 w) := fun w h => by
    have := hG w
    rw [Pipeline.RDat.ArrAt_in _ w h] at this
    exact this
  intro w
  match w with
  | 0 => exact (W3_of m c o _ main_v6_1 (by decide)).trans (hi 0 rfl).symm
  | 1 => exact (W3_of m c o _ main_v6_0 (by decide)).trans (hi 1 rfl).symm
  | 2 => exact (W3_of m c o _ main_arg5 (by decide)).trans (hi 2 rfl).symm
  | 3 => exact (W3_of m c o _ main_v1 (by decide)).trans (hi 3 rfl).symm
  | 4 => exact (W3_of m c o _ main_v5 (by decide)).trans (hi 4 rfl).symm
  | 5 => exact W3_v m c o _
  | ⟨_ + 6, h⟩ => exact absurd h (Nat.not_lt.2 (Nat.le_add_left _ _))

theorem keep1 (c : Dev nD) (o : Arrs F) (v : FVec F S10000x128 .f32) (b : Ref sig .tc)
    (h : ∀ w, b ≠ Pipeline.arrRef spec1 w) : W3 m c o v b = W2 m c o.1 o.2 b :=
  W3_of m c o v b (h 5)

/-- Layer 1's record: entered from the unscoped buffers at `V1`, left at some contents its write-backs allow, the
    resource `Gh` riding along. -/
def R0 (o : Arrs F) (Gh : Dev nD → sProp 𝕄) :
    RDat.RegionSeg (pcfgs (F := F)) adm (rds m o) () defs₀ 𝒱₀ (fun _ => ∅) (fun _ _ => 0) 0 where
  win := winFacts0.to₀
  block_pos := block_pos0
  stage_whole := stage_whole0
  K := PEmpty
  osem := fun k => k.elim
  ho := Pipeline.OwnSemFacts.none _
  hbody c := body_obligation0 m c
  hwaits c := Pipeline.RDat.hwaits_of_owed_zero (pcfgs (F := F)) adm (rds m o) () (fun _ => ∅) (fun _ _ => 0) 0 (fun _ _ => rfl) c
  pre c := iprop(unscopedBufs c (fun b => V1 m c b) ∗ Gh c ∗ noDues (F := F) c)
  post c := iprop(∃ o' : Arrs F, ⌜left0 m c o'⌝ ∗ unscopedBufs c (fun b => W2 m c o'.1 o'.2 b) ∗ Gh c ∗ noDues (F := F) c)
  X _ := BI.emp
  Y _ := BI.emp
  Z c := iprop(Pipeline.unscopedRest spec0 c (fun b => V1 m c b) ∗ Gh c)
  hentry c := by
    rw [Pipeline.prefHeld_of_none _ rfl]
    iintro ⟨⟨Hb, Hg, Ho⟩, -, -⟩
    ihave H := (Pipeline.RDat.arrays_of_unscopedBufs (pcfgs (F := F)) adm (rds m o) (p := 0) winFacts0 arr_whole0 c (rds_share m o 0 c)
      (fun b => V1 m c b) (fun _ => rfl)) $$ Hb
    icases H with ⟨Ha, Hr⟩
    imodintro
    isplitl [Ha]; · iexact Ha
    isplitr; · iempintro
    isplitl [Ho]
    · unfold noDues
      icases Ho with ⟨%W, Ho⟩
      iexists W
      isplitr; · (ipureintro; exact fun _ _ => Or.inl trivial)
      iexact Ho
    isplitr; · iempintro
    isplitl [Hr]; · iexact Hr
    iexact Hg
  hin c := by
    rw [Pipeline.prefHeld_of_none _ rfl]
    show iprop(BI.emp ∗ BI.emp ∗ Pipeline.scopedRest spec0 c) ⊢ iprop(carried0 m c 0 ∗ rest0 c)
    rw [scopedRest0_eq]
    unfold carried0
    rw [if_pos rfl]
    iintro ⟨-, -, H, Hr⟩
    isplitl [H]; · (iapply (owns_some (F := F) c cc0_scratch0).2; iexact H)
    unfold rest0
    iexact Hr
  hout c := by
    show iprop(carried0 m c 21 ∗ rest0 c) ⊢ _
    rw [Pipeline.ownSems0_none]
    show _ ⊢ iprop(BI.emp ∗ BI.emp ∗ Pipeline.scopedRest spec0 c)
    rw [scopedRest0_eq]
    unfold carried0
    rw [if_neg (by decide)]
    iintro ⟨H, Hr⟩
    isplitr; · iempintro
    isplitr; · iempintro
    isplitl [H]; · (iapply (owns_forget (F := F) c cc0_scratch0); iexact H)
    unfold rest0
    iexact Hr
  hexit c := by
    iintro ⟨Ha, Ho, -, Hr, Hg⟩
    ihave Ha := (arraysAt_name m o 0 arr_whole0 c cfg0.N) $$ Ha
    icases Ha with ⟨%G, %hG, Ha⟩
    imodintro
    iexists (G 5, G 6)
    isplitr; · (ipureintro; exact ⟨hG 5, hG 6⟩)
    isplitl [Ha Hr]
    · iapply (unscoped_join 0 winFacts0 c (fun b => V1 m c b) (fun b => W2 m c (G 5) (G 6) b) G (join0 m o c G hG) (keep0 m c _ _))
      isplitl [Ha]; · iexact Ha
      iexact Hr
    isplitl [Hg]; · iexact Hg
    unfold noDues
    icases Ho with ⟨%W, -, Ho⟩
    iexists W; iexact Ho

/-- Layer 2's record, entered with layer 1's arrays at `o`: left with the result at some contents its write-backs allow. -/
def R1 (o : Arrs F) :
    RDat.RegionSeg (pcfgs (F := F)) adm (rds m o) () defs₀ 𝒱₀ (fun _ => ∅) (fun _ _ => 0) 1 where
  win := winFacts1.to₀
  block_pos := block_pos1
  stage_whole := stage_whole1
  K := PEmpty
  osem := fun k => k.elim
  ho := Pipeline.OwnSemFacts.none _
  hbody c := body_obligation1 m c o.1 o.2
  hwaits c := Pipeline.RDat.hwaits_of_owed_zero (pcfgs (F := F)) adm (rds m o) () (fun _ => ∅) (fun _ _ => 0) 1 (fun _ _ => rfl) c
  pre c := iprop(unscopedBufs c (fun b => W2 m c o.1 o.2 b) ∗ noDues (F := F) c)
  post c := iprop(∃ v : FVec F S10000x128 .f32, ⌜left1 m c o v⌝ ∗ unscopedBufs c (fun b => W3 m c o v b) ∗ noDues (F := F) c)
  X _ := BI.emp
  Y _ := BI.emp
  Z c := Pipeline.unscopedRest spec1 c (fun b => W2 m c o.1 o.2 b)
  hentry c := by
    rw [Pipeline.prefHeld_of_none _ rfl]
    iintro ⟨⟨Hb, Ho⟩, -, -⟩
    ihave H := (Pipeline.RDat.arrays_of_unscopedBufs (pcfgs (F := F)) adm (rds m o) (p := 1) winFacts1 arr_whole1 c (rds_share m o 1 c)
      (fun b => W2 m c o.1 o.2 b) (fun _ => rfl)) $$ Hb
    icases H with ⟨Ha, Hr⟩
    imodintro
    isplitl [Ha]; · iexact Ha
    isplitr; · iempintro
    isplitl [Ho]
    · unfold noDues
      icases Ho with ⟨%W, Ho⟩
      iexists W
      isplitr; · (ipureintro; exact fun _ _ => Or.inl trivial)
      iexact Ho
    isplitr; · iempintro
    iexact Hr
  hin c := by
    rw [Pipeline.prefHeld_of_none _ rfl]
    show iprop(BI.emp ∗ BI.emp ∗ Pipeline.scopedRest spec1 c) ⊢ iprop(carried1 m c o.1 o.2 0 ∗ rest1 c)
    rw [scopedRest1_eq]
    unfold carried1
    rw [if_pos rfl]
    iintro ⟨-, -, H1, H2, H3, H4, H5, H6, H7, H8, H9, H10, H11, H12, H13⟩
    isplitl [H12 H13]
    · isplitl [H12]; · (iapply (owns_some (F := F) c cc1_scratch0).2; iexact H12)
      iapply (owns_some (F := F) c cc1_scratch1).2; iexact H13
    unfold rest1
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  hout c := by
    show iprop(carried1 m c o.1 o.2 21 ∗ rest1 c) ⊢ _
    rw [Pipeline.ownSems0_none]
    show _ ⊢ iprop(BI.emp ∗ BI.emp ∗ Pipeline.scopedRest spec1 c)
    rw [scopedRest1_eq]
    unfold carried1 rest1
    rw [if_neg (by decide)]
    iintro ⟨⟨H12, H13⟩, H1, H2, H3, H4, H5, H6, H7, H8, H9, H10, H11⟩
    isplitr; · iempintro
    isplitr; · iempintro
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · (iapply (owns_forget (F := F) c cc1_scratch0); iexact H12)
    iapply (owns_forget (F := F) c cc1_scratch1); iexact H13
  hexit c := by
    iintro ⟨Ha, Ho, -, Hr⟩
    ihave Ha := (arraysAt_name m o 1 arr_whole1 c cfg1.N) $$ Ha
    icases Ha with ⟨%G, %hG, Ha⟩
    imodintro
    iexists (G 5)
    isplitr; · (ipureintro; exact hG 5)
    isplitl [Ha Hr]
    · iapply (unscoped_join 1 winFacts1 c (fun b => W2 m c o.1 o.2 b) (fun b => W3 m c o (G 5) b) G (join1 m o c G hG) (keep1 m c o _))
      isplitl [Ha]; · iexact Ha
      iexact Hr
    unfold noDues
    icases Ho with ⟨%W, -, Ho⟩
    iexists W; iexact Ho

end Cert.Proof.PI
-- ==== Proof.PI.Run.lean ====
/-
  The whole run: the host operations, layer 1, layer 2. Layer 2's data is stated at what layer 1 left, which only the
  run fixes, so its region is entered as a step of the host program, for whatever contents are found.
-/
module

public import proofs.«01_k».proof.Proof.PI.Region
public import Idealize.ShloMosaic.Lib.Pipeline.Kit

@[expose] public section

set_option maxRecDepth 16384

noncomputable section

namespace Cert.Proof.PI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window HostSeg)

variable {F : FTy → Type} [FloatOps F] [Named F]

local notation "𝕄" => MT nD τ sig Unit (Elt F) ℕ UU ℕ

variable (m : (ℓ : Loc nD τ sig) → Buf (Elt F) ℓ)

/-- The second copy of the rounds algebra: layer 2's staging cells. -/
abbrev EP₂ : Emb (UR sig nD τ) 𝕄 := embR

/-- Layer 2's cells and duties, from the second copy. -/
def ghost1 (c : Dev nD) : sProp 𝕄 :=
  iprop(Pipeline.cellsGhost (Pipeline.pin (pcfgs (F := F)) adm) EP₂ 1 c ∗ Pipeline.toksInit (Pipeline.pin (pcfgs (F := F)) adm) EP₂ 1 c)

/-- What layer 2 leaves: the buffers at contents the two regions' write-backs allow, the core owing nothing. -/
def ends (c : Dev nD) : sProp 𝕄 :=
  iprop(∃ (o : Arrs F) (v : FVec F S10000x128 .f32), ⌜left0 m c o ∧ left1 m c o v⌝ ∗ unscopedBufs c (fun b => W3 m c o v b) ∗ noDues (F := F) c)

/-- Layer 2's region as a step of the host program. -/
def H1 : HostSeg (Ix := Unit) (Name := ℕ) (U := UU) (Lvl := ℕ) (pcfgs (F := F)) defs₀ 𝒱₀ (fun _ => ∅) (fun _ _ => 0) where
  prog := Prog.lift (.customCall (Pipeline.entry 1) ())
  pre c := iprop(∃ o : Arrs F, ⌜left0 m c o⌝ ∗ unscopedBufs c (fun b => W2 m c o.1 o.2 b) ∗ ghost1 (F := F) c ∗ noDues (F := F) c)
  post c := ends m c
  run c β k K := by
    unfold ends
    have hb : (Prog.lift (.customCall (Pipeline.entry 1) ()) >>= k
        : Prog (TpuEff nD τ sig (Elt F) (Pipeline.Sig Λ₀ (Fin 2) fun p => (pcfgs (F := F) p).Adm) .tc) β)
        = .op (.customCall (Pipeline.entry 1) ()) fun u => k u := rfl
    rw [hb]
    unfold ghost1
    iintro ⟨Hk, Hbd, ⟨%o, %ho, Hb, ⟨Hg, Ht⟩, Ho⟩, HL⟩
    iapply (Pipeline.RDat.RegionSeg.wp (pcfgs (F := F)) adm (rds m o) () cellOf_inj EP₂ defs₀ 𝒱₀ (fun _ => ∅) (fun _ _ => 0)
      (R1 m o) c none (fun u h => nomatch h) k K)
    isplitl [Hk]
    · iintro ⟨Hbd, Hp⟩
      iapply Hk
      isplitl [Hbd]; · iexact Hbd
      ihave Hp := (show (R1 m o).post c ⊢ iprop(∃ v : FVec F S10000x128 .f32, ⌜left1 m c o v⌝ ∗ unscopedBufs c (fun b => W3 m c o v b) ∗ noDues (F := F) c) from .rfl) $$ Hp
      icases Hp with ⟨%v, %hv, Hb, Ho⟩
      iexists o, v
      isplitr; · (ipureintro; exact ⟨ho, hv⟩)
      isplitl [Hb]; · iexact Hb
      iexact Ho
    isplitl [Hbd]; · iexact Hbd
    isplitl [Hb Ho]
    · iapply (show iprop(unscopedBufs c (fun b => W2 m c o.1 o.2 b) ∗ noDues (F := F) c) ⊢ (R1 m o).pre c from .rfl)
      isplitl [Hb]; · iexact Hb
      iexact Ho
    isplitl [HL]; · iexact HL
    isplitl [Hg]; · iexact Hg
    iexact Ht

/-- What the layer-1 data family holds for layer 2, which the first copy never enters: anything. -/
abbrev anyArrs : Arrs F := (W2 m 0 (m (((0 : Dev nD) : Thread nD τ).loc main_v6_0)) (m (((0 : Dev nD) : Thread nD τ).loc main_v6_1)) main_v6_0,
  m (((0 : Dev nD) : Thread nD τ).loc main_v6_1))

/-- What rides beside the buffers: layer 2's cells and the core owing nothing. -/
def ride (_ : Fin 3) (c : Dev nD) : sProp 𝕄 := iprop(ghost1 (F := F) c ∗ noDues (F := F) c)

/-- @main's items as segments. -/
abbrev segs (_ : Dev nD) : List (RDat.Seg (pcfgs (F := F)) adm (rds m (anyArrs m)) () defs₀ 𝒱₀ (fun _ => ∅) (fun _ _ => 0)) :=
  [.host (seg0 m 𝒱₀ (fun _ => ∅) (fun _ _ => 0) (ride (F := F))), .region (R0 m (anyArrs m) (ghost1 (F := F))), .host (H1 m)]

/-- The last thread state: the buffers at contents the two regions' write-backs allow. -/
def atEnd (c : Dev nD) : sProp 𝕄 :=
  iprop(∃ (o : Arrs F) (v : FVec F S10000x128 .f32), ⌜left0 m c o ∧ left1 m c o v⌝ ∗ unscopedBufs c (fun b => W3 m c o v b))

/-- The launch element: both copies of the rounds algebra at every staging cell and transfer. -/
def u₀ : UU := (initOf (Pipeline.cells cfgs cellOf_inj) (Pipeline.launchToks cfgs cellOf_inj),
  initOf (Pipeline.cells cfgs cellOf_inj) (Pipeline.launchToks cfgs cellOf_inj))

/-- Of a resource dealt to every core and region, layer 2's. -/
theorem pick_second (Φ : Fin 2 → Dev nD → sProp 𝕄) :
    (bigSep Finset.univ fun c : Dev nD => bigSep Finset.univ fun p => Φ p c) ⊢ bigSep Finset.univ fun c => Φ 1 c :=
  bigSep_mono fun c _ => BI.bigSep_elim (Finset.mem_univ (1 : Fin 2))

theorem deal : (ownU u₀ : sProp 𝕄) ⊢ |={Set.univ}=> iprop(BI.own (embL (initOf (Pipeline.cells cfgs cellOf_inj) (Pipeline.launchToks cfgs cellOf_inj)))
    ∗ bigSep Finset.univ (ghost1 (F := F))) := by
  unfold u₀
  iintro H
  ihave H := (ownU_pair _ _) $$ H
  icases H with ⟨HL, HR⟩
  imod (Pipeline.fund_ghost (Pipeline.pin (pcfgs (F := F)) adm) EP₂ cellOf_inj) $$ HR with ⟨Hg, Ht⟩
  imodintro
  isplitl [HL]; · iexact HL
  unfold ghost1
  rw [bigSep_sep']
  isplitl [Hg]
  · iapply (pick_second (fun p c => Pipeline.cellsGhost (Pipeline.pin (pcfgs (F := F)) adm) EP₂ p c)); iexact Hg
  · iapply (pick_second (fun p c => Pipeline.toksInit (Pipeline.pin (pcfgs (F := F)) adm) EP₂ p c)); iexact Ht

/-- What the final memory holds: the arguments as launched, the result at contents the regions' write-backs allow. -/
def AtEnd (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)
    ∧ s.mem ((c : Thread nD τ).loc main_arg7) = m ((c : Thread nD τ).loc main_arg7))
  ∧ ∃ o : Arrs F, left0 m c o ∧ left1 m c o (s.mem ((c : Thread nD τ).loc main_v7))

theorem W3_arg (c : Dev nD) (o : Arrs F) (v : FVec F S10000x128 .f32) (r : Ref sig .tc) (h7 : r ≠ main_v7) (h0 : r ≠ main_v6_0) (h1 : r ≠ main_v6_1)
    (hW : r ∉ hostOps0_W) : W3 m c o v r = m ((c : Thread nD τ).loc r) :=
  (W3_of m c o v r h7).trans <| (W2_of m c _ _ r h0 h1).trans <| (V1_of m c r hW).trans rfl

theorem atEnd_read (c : Dev nD) (s' : Phys nD τ sig (Elt F)) :
    iprop(atEnd m c ∗ SI s') ⊢ |={Set.univ}=> (iprop(⌜AtEnd m c s'.mem⌝ ∗ SI s') : sProp 𝕄) := by
  unfold atEnd
  iintro ⟨⟨%o, %v, %hv, Hb⟩, HSI⟩
  ihave Hb := (Entails.of_eq (Pipeline.unscopedBufs_held (Ix := Unit) (Name := ℕ) (U := UU) (Lvl := ℕ) c (W3 m c o v))) $$ Hb
  unfold StableHlo.held
  ihave Hr := (pointsTo_read_all (Pipeline.ucRefs τ sig) (fun b => ((c : Thread nD τ).1, b)) (W3 m c o v) s') $$ [Hb HSI]
  · isplitl [Hb] <;> iassumption
  icases Hr with ⟨%h, HSI⟩
  imodintro
  isplitr
  · ipureintro
    have hr : ∀ r : Ref sig .tc, (¬ (Proc.devRef (τ := τ) .tc r).isScoped = true) → s'.mem.mem ((c : Thread nD τ).loc r) = W3 m c o v r :=
      fun r hs => h (Proc.devRef .tc r) (Finset.mem_filter.mpr ⟨StableHlo.devRef_mem_tcRefs r, hs⟩)
    have e7 : s'.mem.mem ((c : Thread nD τ).loc main_v7) = v := (hr main_v7 (by decide)).trans (W3_v m c o v)
    refine ⟨⟨?_, ?_, ?_, ?_, ?_, ?_, ?_, ?_⟩, o, hv.1, ?_⟩
    · exact (hr main_arg0 (by decide)).trans (W3_arg m c o v main_arg0 (by decide) (by decide) (by decide) (by decide))
    · exact (hr main_arg1 (by decide)).trans (W3_arg m c o v main_arg1 (by decide) (by decide) (by decide) (by decide))
    · exact (hr main_arg2 (by decide)).trans (W3_arg m c o v main_arg2 (by decide) (by decide) (by decide) (by decide))
    · exact (hr main_arg3 (by decide)).trans (W3_arg m c o v main_arg3 (by decide) (by decide) (by decide) (by decide))
    · exact (hr main_arg4 (by decide)).trans (W3_arg m c o v main_arg4 (by decide) (by decide) (by decide) (by decide))
    · exact (hr main_arg5 (by decide)).trans (W3_arg m c o v main_arg5 (by decide) (by decide) (by decide) (by decide))
    · exact (hr main_arg6 (by decide)).trans (W3_arg m c o v main_arg6 (by decide) (by decide) (by decide) (by decide))
    · exact (hr main_arg7 (by decide)).trans (W3_arg m c o v main_arg7 (by decide) (by decide) (by decide) (by decide))
    · rw [e7]; exact hv.2
  · iexact HSI

/-- One core's launch: its buffers as launched, layer 2's cells, no dues. -/
theorem launched_core (ρ : Dev nD → PrngReg) (c : Dev nD) :
    iprop(unscopedBufs c (fun b => m ((c.tc : Thread nD τ).loc b)) ∗ unscopedSems0 c
        ∗ owes (c.tc : Thread nD τ) (0 : CellTallies nD τ sig Unit) ∅ ∗ Pipeline.launchCred (fun _ => 0) c ∗ prngReg c (ρ c) ∗ ghost1 (F := F) c)
      ⊢ (iprop(StableHlo.held (c : Thread nD τ) (Pipeline.ucRefs τ sig) (V0 m c) ∗ ride (F := F) 0 c) : sProp 𝕄) := by
  rw [← Pipeline.unscopedBufs_held (Ix := Unit) (Name := ℕ) (U := UU) (Lvl := ℕ) c (V0 m c)]
  unfold ride noDues
  iintro ⟨Hb, -, Ho, -, -, Hg⟩
  isplitl [Hb]; · iexact Hb
  isplitl [Hg]; · iexact Hg
  iexists ∅
  iexact Ho

theorem launched (ρ : Dev nD → PrngReg) :
    iprop((bigSep Finset.univ fun c : Dev nD => iprop(unscopedBufs c (fun b => m ((c.tc : Thread nD τ).loc b)) ∗ unscopedSems0 c
        ∗ owes (c.tc : Thread nD τ) (0 : CellTallies nD τ sig Unit) ∅ ∗ Pipeline.launchCred (fun _ => 0) c ∗ prngReg c (ρ c) ∗ ghost1 (F := F) c))
        ∗ levAts (fun _ => ∅) (fun _ _ => 0))
      ⊢ |={Set.univ}=> (bigSep Finset.univ fun c : Dev nD => iprop(StableHlo.held (c : Thread nD τ) (Pipeline.ucRefs τ sig) (V0 m c) ∗ ride (F := F) 0 c) : sProp 𝕄) := by
  refine (sep_mono (bigSep_mono fun (c : Dev nD) _ => launched_core m ρ c) .rfl).trans ?_
  iintro ⟨H, -⟩
  imodintro
  iexact H

theorem ends_split (c : Dev nD) : ends m c ⊢ (iprop(atEnd m c ∗ noDues (F := F) c) : sProp 𝕄) := by
  unfold ends atEnd
  iintro ⟨%o, %v, %hv, Hb, Ho⟩
  isplitl [Hb]
  · iexists o, v
    isplitr; · (ipureintro; exact hv)
    iexact Hb
  iexact Ho

/-- The segments' thread states chain, on each core. -/
theorem chained (c : Dev nD) : Pipeline.RDat.Seg.ChainsAt c
    (fun c => iprop(StableHlo.held (c : Thread nD τ) (Pipeline.ucRefs τ sig) (V0 m c) ∗ ride (F := F) 0 c)) (segs m c)
    (fun c => iprop(atEnd m c ∗ ∃ W, owes (c.tc : Thread nD τ) (0 : CellTallies nD τ sig Unit) W)) := by
  refine ⟨.rfl, ?_, .rfl, ?_⟩
  · show iprop(StableHlo.held (c : Thread nD τ) (Pipeline.ucRefs τ sig) (V1 m c) ∗ ride (F := F) 0 c)
      ⊢ iprop(unscopedBufs c (fun b => V1 m c b) ∗ ghost1 (F := F) c ∗ noDues (F := F) c)
    rw [← Pipeline.unscopedBufs_held (Ix := Unit) (Name := ℕ) (U := UU) (Lvl := ℕ) c (V1 m c)]
    exact .rfl
  · exact ends_split m c

set_option backward.isDefEq.respectTransparency.types false in
/-- Every weakly fair execution from memory `m` with zero counters terminates, with the arguments as launched, every
    counter zero, and the result at contents the two regions' write-backs allow. -/
theorem run (ρ : Dev nD → PrngReg) :
    θ_run defs (onTc (τ := τ) (main (F := F))) ⟨m, fun _ => 0, ρ⟩ (fun r => (∀ c : Dev nD, AtEnd m c r.2) ∧ r.2.sem = fun _ => 0) := by
  refine Pipeline.RDat.θ_run_regions_kit_dev_sems (pcfgs (F := F)) adm (rds m (anyArrs m)) () cellOf_inj (embL : Emb (UR sig nD τ) 𝕄)
    defs₀ 𝒱₀ (fun _ => ∅) (fun _ _ => 0) m ρ main (segs m)
    (fun c Q => by
      rewrite [main_chain c, Pipeline.RDat.Seg.run_eq_chain,
        show (segs m c).map Pipeline.RDat.Seg.prog = [
          StableHlo.seq hostOps0,
          Prog.lift (.customCall (Pipeline.entry 0) ()),
          Prog.lift (.customCall (Pipeline.entry 1) ()) ] from rfl]
      exact .rfl)
    (fun c => by simp only [segs, Pipeline.RDat.Seg.pipes_host, Pipeline.RDat.Seg.pipes_region, Pipeline.RDat.Seg.pipes_nil]; decide)
    (fun _ => 0) (fun _ _ => rfl) (ghost1 (F := F)) u₀ deal
    (T₀ := fun c => iprop(StableHlo.held (c : Thread nD τ) (Pipeline.ucRefs τ sig) (V0 m c) ∗ ride (F := F) 0 c))
    (Tₙ := atEnd m)
    (hch := chained m)
    (hinit := launched m ρ) (QY := AtEnd m)
    (hfin := fun c s' => atEnd_read m c s') (hQ := fun _ h hz => ⟨h, funext fun g => hz g (.inr (regions_no_unscoped g.2))⟩)
end Cert.Proof.PI
-- ==== Proof.Frames.lean ====
/-
  The claims about the runs alone: each program terminates with its arguments as launched and every counter zero, and
  each named constant stands for its value.
-/
module

public import proofs.«01_k».proof.Defs
public import proofs.«01_k».proof.Proof.P.Run
public import proofs.«01_k».proof.Proof.PI.Run
public import proofs.«01_k».proof.Proof.Gen.Pre_finite
public import proofs.«01_k».proof.Proof.Gen.ReferenceIdeal.Run

@[expose] public section

noncomputable section

namespace Cert.Proof

open Idealize.ShloMosaic Idealize.SL.Sem

theorem frame_Kernel : Cert.quiescent_Kernel (hKernel := Cert.Kernel.Gen.facts) := fun m g _ =>
  (θ_run _ _ _).mono (fun _ h => ⟨fun c => (h.1 c).1, h.2⟩) (P.run m g)

theorem frame_KernelIdeal : Cert.quiescent_KernelIdeal (hKernelIdeal := Cert.KernelIdeal.Gen.facts) := fun m g _ =>
  (θ_run _ _ _).mono (fun _ h => ⟨fun c => (h.1 c).1, h.2⟩) (PI.run m g)

theorem frame_KernelIdeal_finite : Cert.quiescent_KernelIdeal_pre_finite (hKernelIdeal := Cert.KernelIdeal.Gen.facts)
    (hPre_finite := Cert.Pre_finite.Gen.facts) := fun m g _ =>
  (θ_run _ _ _).mono (fun _ h => ⟨fun c => (h.1 c).1, h.2⟩) (PI.run m g)

/-- The reference declares no semaphore, so nothing of it can be left raised. -/
theorem frame_ReferenceIdeal : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

theorem frame_ReferenceIdeal_finite : Cert.quiescent_ReferenceIdeal_pre_finite (hReferenceIdeal := Cert.ReferenceIdeal.Gen.facts)
    (hPre_finite := Cert.Pre_finite.Gen.facts) := fun m g _ =>
  (θ_run _ _ _).mono (fun r h => ⟨fun c => (h c).2, sem_eq_zero_of_no_sems (by decide) r.2⟩) (Cert.ReferenceIdeal.Value.run (F := Ideal) m g)

theorem named_c128_255 : IdealRules.named_const.Statement Cert.KernelIdeal.κ "c128_255" .f32 0x3F008081#32 ((128 / 255 : ℝ) : EReal) :=
  ⟨rfl, fun _ => IdealRules.named_const.ideal_named _ _ _ _ rfl, IdealRules.named_const.ideal_named_scalar _ _ _ _ rfl⟩

theorem named_inv255 : IdealRules.named_const.Statement Cert.KernelIdeal.κ "inv255" .f32 0x3B808081#32 ((1 / 255 : ℝ) : EReal) :=
  ⟨rfl, fun _ => IdealRules.named_const.ideal_named _ _ _ _ rfl, IdealRules.named_const.ideal_named_scalar _ _ _ _ rfl⟩

end Cert.Proof
-- ==== Proof.PI.Blocks.lean ====
/-
  The staged blocks read at an element: which entry of which array a row and a column of a staging buffer hold, and
  which entry of the result array a row and a column of an output block are written to.
-/
module

public import proofs.«01_k».proof.Proof.PI.Region
public import Idealize.ShloMosaic.Lib.Pointwise
public import Idealize.ShloMosaic.Lib.Pipeline.ArrRel
public import Idealize.ShloMosaic.Lib.Pipeline.ValueKit.Geometry

@[expose] public section

set_option maxRecDepth 16384

noncomputable section

namespace Cert.Proof.PI

open Cert.KernelIdeal Cert.KernelIdeal.Gen

open Idealize.ShloMosaic
open Idealize.ShloMosaic.TcCoe
open Idealize.SL Idealize.SL.RA Idealize.SL.Sem
open Idealize.ShloMosaic.Pipeline (RDat Dat Cfg Window)

section Generic

variable {nD : Nat} {τ : Topo} {sig : RefSig} {Val : EltTy → Type} {Λ₀ : Labels}
variable {Ix : Type} [DecidableEq Ix] {Name : Type} [DecidableEq Name] {U : Type} [URA U] {Lvl : Type}
variable {cfg : Cfg sig Λ₀} {c : Dev nD} {rd : RDat τ Val Ix Name U Lvl cfg c}

/-- A property that everything the body may leave in a block has, at every element, the array's every element has after
    the write-backs, where the blocks cover the array. -/
theorem forall_of_arrAt [∀ e, Nonempty (Val e)] {w : Fin cfg.W} {G : Buf Val ((cfg.win w).arr.view.loc (c.tc : Thread nD τ))}
    (hG : rd.ArrAt w cfg.N G)
    (P : ((cfg.win w).arr.view.loc (c.tc : Thread nD τ)).2.ty.Idx → Val ((cfg.win w).arr.view.loc (c.tc : Thread nD τ)).2.ty.elt → Prop)
    (hcov : (cfg.win w).Covers) (harr : (cfg.win w).arr.IsWhole)
    (hP : ∀ t X, rd.Leaves w t X → ∀ y : ((cfg.win w).xblock (cfg.grid.coords t)).Idx,
      P (((cfg.win w).blk t).view.emb y)
        (_root_.cast (congrArg Val ((cfg.win w).blk t).view.elt_eq.symm) (X ((cfg.win w).xinj (cfg.grid.coords t) y))))
    (i : ((cfg.win w).arr.view.loc (c.tc : Thread nD τ)).2.ty.Idx) : P i (G i) := by
  obtain ⟨X, hX, hA⟩ := hG.exists_exact
  rw [hA (Function.update (fun _ _ _ => Classical.arbitrary _) w X) fun u _ _ => by rw [Function.update_self]]
  refine Dat.arrAt_forall_of_covers _ w P hcov (fun t hf y => ?_) i harr
  rw [RDat.withAfter_after, Function.update_self]
  exact hP t _ (hX t t.isLt hf) y

/-- An index of a block that lies in the part moved is an index of that part. -/
theorem exists_xinj {G : Pipeline.Grid} (w : Window sig G) (i : G.Coords) (x : w.block.Idx) (h : ∀ a, (x a).val < w.xsize i a) :
    ∃ y : (w.xblock i).Idx, w.xinj i y = x := ⟨fun a => ⟨(x a).val, h a⟩, rfl⟩

end Generic

variable {F : FTy → Type} [FloatOps F] [Named F]
variable (m : (ℓ : Loc nD τ sig) → Buf (Elt F) ℓ) (c : Dev nD)

theorem covers0_5 : win0_5.Covers := by decide +kernel
theorem covers0_6 : win0_6.Covers := by decide +kernel
theorem covers1_5 : win1_5.Covers := by decide +kernel

/-- The row blocks' indices and the parts of them inside the arrays. -/
theorem idx0_0 : ∀ t : Fin grid0.N, win0_0.index t 0 = t.val ∧ win0_0.index t 1 = 0 := by decide +kernel
theorem idx0_5 : ∀ t : Fin grid0.N, win0_5.index t 0 = t.val ∧ win0_5.index t 1 = 0 := by decide +kernel
theorem idx0_6 : ∀ t : Fin grid0.N, win0_6.index t 0 = t.val ∧ win0_6.index t 1 = 0 := by decide +kernel
theorem idx1_0 : ∀ t : Fin grid1.N, win1_0.index t 0 = t.val ∧ win1_0.index t 1 = 0 := by decide +kernel
theorem idx1_5 : ∀ t : Fin grid1.N, win1_5.index t 0 = t.val ∧ win1_5.index t 1 = 0 := by decide +kernel
theorem rows0_0 : ∀ t : Fin grid0.N, win0_0.xsize (grid0.coords t) 0 = min 480 (10000 - 480 * t.val) := by decide +kernel
theorem cols0_0 : ∀ t : Fin grid0.N, win0_0.xsize (grid0.coords t) 1 = 10000 := by decide +kernel
theorem rows0_5 : ∀ t : Fin grid0.N, win0_5.xsize (grid0.coords t) 0 = min 480 (10000 - 480 * t.val) := by decide +kernel
theorem cols0_5 : ∀ t : Fin grid0.N, win0_5.xsize (grid0.coords t) 1 = 128 := by decide +kernel
theorem rows1_5 : ∀ t : Fin grid1.N, win1_5.xsize (grid1.coords t) 0 = min 480 (10000 - 480 * t.val) := by decide +kernel
theorem cols1_5 : ∀ t : Fin grid1.N, win1_5.xsize (grid1.coords t) 1 = 128 := by decide +kernel

/-- The staged block's elements in the adjacency. -/
theorem emb0_0 (t : Fin cfg0.N) (y : (win0_0.xblock (cfg0.grid.coords t)).Idx) :
    ((win0_0.blk t).view.emb y 0).val = 480 * t.val + (y 0).val ∧ ((win0_0.blk t).view.emb y 1).val = (y 1).val := by
  obtain ⟨h0, h1⟩ := idx0_0 t
  constructor
  · refine (Rect.emb_apply (win0_0.rect t) y 0).trans ?_
    show win0_0.index t 0 * 480 + 1 * (y 0).val = 480 * t.val + (y 0).val
    rw [h0]; omega
  · refine (Rect.emb_apply (win0_0.rect t) y 1).trans ?_
    show win0_0.index t 1 * 10000 + 1 * (y 1).val = (y 1).val
    rw [h1]; omega

/-- Layer 1's block in its result. -/
theorem emb0_5 (t : Fin cfg0.N) (y : (win0_5.xblock (cfg0.grid.coords t)).Idx) :
    ((win0_5.blk t).view.emb y 0).val = 480 * t.val + (y 0).val ∧ ((win0_5.blk t).view.emb y 1).val = (y 1).val := by
  obtain ⟨h0, h1⟩ := idx0_5 t
  constructor
  · refine (Rect.emb_apply (win0_5.rect t) y 0).trans ?_
    show win0_5.index t 0 * 480 + 1 * (y 0).val = 480 * t.val + (y 0).val
    rw [h0]; omega
  · refine (Rect.emb_apply (win0_5.rect t) y 1).trans ?_
    show win0_5.index t 1 * 128 + 1 * (y 1).val = (y 1).val
    rw [h1]; omega

/-- Layer 1's block of bytes in their array. -/
theorem emb0_6 (t : Fin cfg0.N) (y : (win0_6.xblock (cfg0.grid.coords t)).Idx) :
    ((win0_6.blk t).view.emb y 0).val = 480 * t.val + (y 0).val ∧ ((win0_6.blk t).view.emb y 1).val = (y 1).val := by
  obtain ⟨h0, h1⟩ := idx0_6 t
  constructor
  · refine (Rect.emb_apply (win0_6.rect t) y 0).trans ?_
    show win0_6.index t 0 * 480 + 1 * (y 0).val = 480 * t.val + (y 0).val
    rw [h0]; omega
  · refine (Rect.emb_apply (win0_6.rect t) y 1).trans ?_
    show win0_6.index t 1 * 10000 + 1 * (y 1).val = (y 1).val
    rw [h1]; omega

/-- The staged bytes in their array. -/
theorem emb1_0 (t : Fin cfg1.N) (y : (win1_0.xblock (cfg1.grid.coords t)).Idx) :
    ((win1_0.blk t).view.emb y 0).val = 480 * t.val + (y 0).val ∧ ((win1_0.blk t).view.emb y 1).val = (y 1).val := by
  obtain ⟨h0, h1⟩ := idx1_0 t
  constructor
  · refine (Rect.emb_apply (win1_0.rect t) y 0).trans ?_
    show win1_0.index t 0 * 480 + 1 * (y 0).val = 480 * t.val + (y 0).val
    rw [h0]; omega
  · refine (Rect.emb_apply (win1_0.rect t) y 1).trans ?_
    show win1_0.index t 1 * 10000 + 1 * (y 1).val = (y 1).val
    rw [h1]; omega

/-- Layer 2's block in the result. -/
theorem emb1_5 (t : Fin cfg1.N) (y : (win1_5.xblock (cfg1.grid.coords t)).Idx) :
    ((win1_5.blk t).view.emb y 0).val = 480 * t.val + (y 0).val ∧ ((win1_5.blk t).view.emb y 1).val = (y 1).val := by
  obtain ⟨h0, h1⟩ := idx1_5 t
  constructor
  · refine (Rect.emb_apply (win1_5.rect t) y 0).trans ?_
    show win1_5.index t 0 * 480 + 1 * (y 0).val = 480 * t.val + (y 0).val
    rw [h0]; omega
  · refine (Rect.emb_apply (win1_5.rect t) y 1).trans ?_
    show win1_5.index t 1 * 128 + 1 * (y 1).val = (y 1).val
    rw [h1]; omega

theorem adj_entry : V1 m c main_arg1 = m ((c.tc : Thread nD τ).loc main_arg1) := V1_of m c main_arg1 (by decide)

theorem adjAt_moved (t : Fin cfg0.N) (d : S480x10000.Idx → Elt F .f32) (y : (win0_0.xblock (cfg0.grid.coords t)).Idx) :
    adjAt m c t d (win0_0.xinj (cfg0.grid.coords t) y) = (win0_0.blk t).view.read (Elt F) (V1 m c main_arg1) y := by
  unfold adjAt
  rw [Window.fill_xinj]

theorem adj_read (t : Fin cfg0.N) (y : (win0_0.xblock (cfg0.grid.coords t)).Idx) :
    (win0_0.blk t).view.read (Elt F) (V1 m c main_arg1) y = V1 m c main_arg1 ((win0_0.blk t).view.emb y) := rfl

theorem inside0_0 (t : Fin cfg0.N) (r : Fin 480) (k : Fin 10000) (h : 480 * t.val + r.val < 10000) :
    ∀ a, ((ix2 r k : S480x10000.Idx) a).val < win0_0.xsize (cfg0.grid.coords t) a := fun
  | 0 => lt_of_lt_of_eq (lt_min r.isLt (show r.val < 10000 - 480 * t.val by omega)) (rows0_0 t).symm
  | 1 => lt_of_lt_of_eq k.isLt (cols0_0 t).symm

/-- A staged adjacency row that lies in the array holds the array's row. -/
theorem adjAt_apply (t : Fin cfg0.N) (d : S480x10000.Idx → Elt F .f32) (r : Fin 480) (k : Fin 10000) (h : 480 * t.val + r.val < 10000) :
    adjAt m c t d (ix2 r k) = V1 m c main_arg1 (ix2 (n0 := 10000) (n1 := 10000) ⟨480 * t.val + r.val, h⟩ k) := by
  obtain ⟨y, hy⟩ := exists_xinj win0_0 (cfg0.grid.coords t) (ix2 r k) (inside0_0 t r k h)
  rw [← hy, adjAt_moved, adj_read]
  obtain ⟨e0, e1⟩ := emb0_0 t y
  have y0 : (y 0).val = r.val := congrArg (fun x : S480x10000.Idx => (x 0).val) hy
  have y1 : (y 1).val = k.val := congrArg (fun x : S480x10000.Idx => (x 1).val) hy
  congr 1
  funext a
  match a with
  | 0 => exact Fin.ext (e0.trans (congrArg (480 * t.val + ·) y0))
  | 1 => exact Fin.ext (e1.trans y1)

/-! The blocks fetched once are their arrays. -/

theorem x0_eq : x0 m c = V1 m c main_arg0 := by
  funext i
  show V1 m c main_arg0 ((win0_1.blk t00).view.emb i) = _
  congr 1
  funext a
  match a with
  | 0 => exact Fin.ext ((Rect.emb_apply (win0_1.rect t00) i 0).trans ((Nat.zero_add _).trans (Nat.one_mul _)))
  | 1 => exact Fin.ext ((Rect.emb_apply (win0_1.rect t00) i 1).trans ((Nat.zero_add _).trans (Nat.one_mul _)))

theorem w0_eq : w0 m c = V1 m c main_arg2 := by
  funext i
  show V1 m c main_arg2 ((win0_2.blk t00).view.emb i) = _
  congr 1
  funext a
  match a with
  | 0 => exact Fin.ext ((Rect.emb_apply (win0_2.rect t00) i 0).trans ((Nat.zero_add _).trans (Nat.one_mul _)))
  | 1 => exact Fin.ext ((Rect.emb_apply (win0_2.rect t00) i 1).trans ((Nat.zero_add _).trans (Nat.one_mul _)))

theorem b0_eq : b0 m c = V1 m c main_v0 := by
  funext i
  show V1 m c main_v0 ((win0_3.blk t00).view.emb i) = _
  congr 1
  funext a
  match a with
  | 0 => exact Fin.ext ((Rect.emb_apply (win0_3.rect t00) i 0).trans ((Nat.zero_add _).trans (Nat.one_mul _)))
  | 1 => exact Fin.ext ((Rect.emb_apply (win0_3.rect t00) i 1).trans ((Nat.zero_add _).trans (Nat.one_mul _)))

theorem a0_eq : a0 m c = V1 m c main_v3 := by
  funext i
  show V1 m c main_v3 ((win0_4.blk t00).view.emb i) = _
  congr 1
  funext a
  match a with
  | 0 => exact Fin.ext ((Rect.emb_apply (win0_4.rect t00) i 0).trans ((Nat.zero_add _).trans (Nat.one_mul _)))
  | 1 => exact Fin.ext ((Rect.emb_apply (win0_4.rect t00) i 1).trans ((Nat.zero_add _).trans (Nat.one_mul _)))

theorem z1_eq (z : FVec F S10000x128 .f32) (q : IVec S10080x10000 8) : z1 m c z q = W2 m c z q main_v6_0 := by
  funext i
  show W2 m c z q main_v6_0 ((win1_1.blk t01).view.emb i) = _
  congr 1
  funext a
  match a with
  | 0 => exact Fin.ext ((Rect.emb_apply (win1_1.rect t01) i 0).trans ((Nat.zero_add _).trans (Nat.one_mul _)))
  | 1 => exact Fin.ext ((Rect.emb_apply (win1_1.rect t01) i 1).trans ((Nat.zero_add _).trans (Nat.one_mul _)))

theorem w1_eq (z : FVec F S10000x128 .f32) (q : IVec S10080x10000 8) : w1 m c z q = W2 m c z q main_arg5 := by
  funext i
  show W2 m c z q main_arg5 ((win1_2.blk t01).view.emb i) = _
  congr 1
  funext a
  match a with
  | 0 => exact Fin.ext ((Rect.emb_apply (win1_2.rect t01) i 0).trans ((Nat.zero_add _).trans (Nat.one_mul _)))
  | 1 => exact Fin.ext ((Rect.emb_apply (win1_2.rect t01) i 1).trans ((Nat.zero_add _).trans (Nat.one_mul _)))

theorem b1_eq (z : FVec F S10000x128 .f32) (q : IVec S10080x10000 8) : b1 m c z q = W2 m c z q main_v1 := by
  funext i
  show W2 m c z q main_v1 ((win1_3.blk t01).view.emb i) = _
  congr 1
  funext a
  match a with
  | 0 => exact Fin.ext ((Rect.emb_apply (win1_3.rect t01) i 0).trans ((Nat.zero_add _).trans (Nat.one_mul _)))
  | 1 => exact Fin.ext ((Rect.emb_apply (win1_3.rect t01) i 1).trans ((Nat.zero_add _).trans (Nat.one_mul _)))

theorem a1_eq (z : FVec F S10000x128 .f32) (q : IVec S10080x10000 8) : a1 m c z q = W2 m c z q main_v5 := by
  funext i
  show W2 m c z q main_v5 ((win1_4.blk t01).view.emb i) = _
  congr 1
  funext a
  match a with
  | 0 => exact Fin.ext ((Rect.emb_apply (win1_4.rect t01) i 0).trans ((Nat.zero_add _).trans (Nat.one_mul _)))
  | 1 => exact Fin.ext ((Rect.emb_apply (win1_4.rect t01) i 1).trans ((Nat.zero_add _).trans (Nat.one_mul _)))

end Cert.Proof.PI
-- ==== Proof.Layers.lean ====
/-
  The two layers as functions of their arguments' entries over the extended reals, and the arithmetic that the
  certificate rests on: the 8-bit grid of the adjacency, the slope activation in its two spellings, and the equation
  between the shifted product with its corrected bias and the product by the grid values.
-/
module

public import Idealize.ShloMosaic.PureOps.Ideal
public import Mathlib.Data.EReal.Operations
public import Mathlib.Tactic.NormNum
public import Mathlib.Tactic.Ring
public import Mathlib.Tactic.Push

@[expose] public section

noncomputable section

namespace Cert.Proof

open Idealize.ShloMosaic

/-- The activation: `z` where it is not negative, `a · z` elsewhere. -/
def prelu (a z : EReal) : EReal := if 0 ≤ z then z else a * z

/-- The activation as the sum of the positive part and the scaled negative part. -/
theorem max_add_mul_min (a z : EReal) : max z 0 + a * min z 0 = prelu a z := by
  unfold prelu
  split
  · next h => rw [max_eq_left h, min_eq_right h, mul_zero, add_zero]
  · next h => rw [max_eq_right (not_le.1 h).le, min_eq_left (not_le.1 h).le, zero_add]

/-- An entry on the 8-bit grid before the division: `255 a` rounded to the nearest integer, ties to even, clipped to 0..255. -/
def level (a : EReal) : EReal :=
  min ((255 : ℝ) : EReal) (max 0 (Ideal.liftRound Ideal.roundHalfEven (a * ((255 : ℝ) : EReal))))

/-- The byte that stands for an entry: `255 a` rounded, less 128, saturated to a signed byte. -/
def byte (a : EReal) : BitVec 8 :=
  Ideal.fptosi 8 (Ideal.liftRound Ideal.roundHalfEven (a * ((255 : ℝ) : EReal)) - ((128 : ℝ) : EReal))

theorem word255 : Ideal.ofBits .f32 0x437F0000#32 = ((255 : ℝ) : EReal) := by
  simp [Ideal.ofBits, Ideal.ieee]
  rw [← EReal.coe_mul]
  norm_num

theorem word128 : Ideal.ofBits .f32 0x43000000#32 = ((128 : ℝ) : EReal) := by
  simp [Ideal.ofBits, Ideal.ieee]
  rw [← EReal.coe_mul]
  norm_num

theorem toInt_byte (n : ℤ) (h0 : -128 ≤ n) (h1 : n ≤ 127) : (BitVec.ofInt 8 n).toInt = n := by
  rw [BitVec.toInt_ofInt]
  norm_num [Int.bmod]
  omega

/-- The byte is the grid level less 128, whatever the entry. -/
theorem byte_level (a : EReal) : ∃ g : ℤ, level a = ((g : ℝ) : EReal) ∧ (byte a).toInt = g - 128 := by
  unfold level byte Ideal.fptosi
  induction a * ((255 : ℝ) : EReal) with
  | bot => exact ⟨0, by simp, by simp⟩
  | top => exact ⟨255, by simp, by simp⟩
  | coe r =>
    rw [Ideal.liftRound_coe]
    generalize Ideal.roundHalfEven r = n
    refine ⟨min 255 (max 0 n), ?_, ?_⟩
    · push_cast
      rw [EReal.coe_strictMono.monotone.map_min, EReal.coe_strictMono.monotone.map_max]
      rfl
    · have e : (((n : ℝ) : EReal) - ((128 : ℝ) : EReal)) = (((n - 128 : ℤ) : ℝ) : EReal) := by
        rw [← EReal.coe_sub]; push_cast; rfl
      rw [e, Ideal.toIntClamped_coe, Int.floor_intCast, Int.ceil_intCast, ite_self, toInt_byte _ (by norm_num) (by norm_num)]
      norm_num
      omega

/-- A finite sum of reals, taken as extended reals. -/
theorem coe_sum {ι : Type} (s : Finset ι) (f : ι → ℝ) : ((∑ i ∈ s, f i : ℝ) : EReal) = ∑ i ∈ s, ((f i : ℝ) : EReal) := by
  classical
  induction s using Finset.induction with
  | empty => simp
  | insert i s hi ih => rw [Finset.sum_insert hi, Finset.sum_insert hi, EReal.coe_add, ih]

/-- An extended real that is a real number. -/
def IsReal (x : EReal) : Prop := ∃ r : ℝ, x = (r : EReal)

theorem IsReal.add {x y : EReal} : IsReal x → IsReal y → IsReal (x + y) := by
  rintro ⟨a, rfl⟩ ⟨b, rfl⟩; exact ⟨a + b, (EReal.coe_add a b).symm⟩

theorem IsReal.mul {x y : EReal} : IsReal x → IsReal y → IsReal (x * y) := by
  rintro ⟨a, rfl⟩ ⟨b, rfl⟩; exact ⟨a * b, (EReal.coe_mul a b).symm⟩

theorem IsReal.sum {ι : Type} {s : Finset ι} {f : ι → EReal} (h : ∀ i, IsReal (f i)) : IsReal (∑ i ∈ s, f i) := by
  choose g hg using h
  exact ⟨∑ i ∈ s, g i, by rw [coe_sum]; exact Finset.sum_congr rfl fun i _ => hg i⟩

theorem IsReal.prelu {a z : EReal} (ha : IsReal a) (hz : IsReal z) : IsReal (prelu a z) := by
  unfold Cert.Proof.prelu; split
  · exact hz
  · exact ha.mul hz

/-- THE EQUATION. The product by the bytes, over 255, plus the bias corrected by 128/255 of the column's sum, is the
    product by the grid values plus the bias, where the other operand is real. -/
theorem shifted_product {ι : Type} [Fintype ι] (adj y : ι → EReal) (b : EReal) (hy : ∀ k, IsReal (y k)) :
    (∑ k, (((byte (adj k)).toInt : ℝ) : EReal) * y k) * ((1 / 255 : ℝ) : EReal) + (b + ((128 / 255 : ℝ) : EReal) * ∑ k, y k)
      = (∑ k, Ideal.div (level (adj k)) ((255 : ℝ) : EReal) * y k) + b := by
  choose t ht using hy
  choose g hg hq using fun k => byte_level (adj k)
  have e1 : (∑ k, (((byte (adj k)).toInt : ℝ) : EReal) * y k) = ((∑ k, ((g k - 128 : ℤ) : ℝ) * t k : ℝ) : EReal) := by
    rw [coe_sum]; exact Finset.sum_congr rfl fun k _ => by rw [ht, hq, EReal.coe_mul]
  have e2 : (∑ k, y k) = ((∑ k, t k : ℝ) : EReal) := by
    rw [coe_sum]; exact Finset.sum_congr rfl fun k _ => ht k
  have e3 : (∑ k, Ideal.div (level (adj k)) ((255 : ℝ) : EReal) * y k) = ((∑ k, ((g k : ℝ) * (1 / 255)) * t k : ℝ) : EReal) := by
    rw [coe_sum]
    exact Finset.sum_congr rfl fun k _ => by rw [ht, hg, Ideal.div_coe (by norm_num), EReal.coe_mul, EReal.coe_mul]
  rw [e1, e2, e3, add_comm b, ← add_assoc, ← EReal.coe_mul, ← EReal.coe_mul, ← EReal.coe_add]
  congr 2
  rw [Finset.sum_mul, Finset.mul_sum, ← Finset.sum_add_distrib]
  exact Finset.sum_congr rfl fun k _ => by push_cast; ring

section Layers

variable {n d h : ℕ}

/-- A projection by a transposed weight matrix. -/
def proj {n d h : ℕ} (x : Fin n → Fin d → EReal) (w : Fin h → Fin d → EReal) (k : Fin n) (j : Fin h) : EReal := ∑ e, x k e * w j e

/-- One layer: the aggregated projection, the bias, the activation. -/
def layer {n d h : ℕ} (adj : Fin n → Fin n → EReal) (x : Fin n → Fin d → EReal) (w : Fin h → Fin d → EReal) (b : Fin h → EReal) (a : EReal)
    (k : Fin n) (j : Fin h) : EReal :=
  prelu a ((∑ l, adj k l * proj x w l j) + b j)

theorem IsReal.proj {x : Fin n → Fin d → EReal} {w : Fin h → Fin d → EReal} (hx : ∀ k e, IsReal (x k e)) (hw : ∀ j e, IsReal (w j e))
    (k : Fin n) (j : Fin h) : IsReal (Cert.Proof.proj x w k j) := IsReal.sum fun e => (hx k e).mul (hw j e)

theorem IsReal.layer {adj : Fin n → Fin n → EReal} {x : Fin n → Fin d → EReal} {w : Fin h → Fin d → EReal} {b : Fin h → EReal} {a : EReal}
    (hadj : ∀ k l, IsReal (adj k l)) (hx : ∀ k e, IsReal (x k e)) (hw : ∀ j e, IsReal (w j e)) (hb : ∀ j, IsReal (b j)) (ha : IsReal a)
    (k : Fin n) (j : Fin h) : IsReal (Cert.Proof.layer adj x w b a k j) :=
  IsReal.prelu ha ((IsReal.sum fun l => (hadj k l).mul (IsReal.proj hx hw l j)).add (hb j))

end Layers

/-- The adjacency on the 8-bit grid. -/
def onGrid {n : ℕ} (adj : Fin n → Fin n → EReal) (k l : Fin n) : EReal := Ideal.div (level (adj k l)) ((255 : ℝ) : EReal)

end Cert.Proof
-- ==== Proof.PI.Payload.lean ====
/-
  What one grid step computes, read element by element over the extended reals: each payload at a row and a column.
-/
module

public import proofs.«01_k».proof.Proof.Gen.KernelIdeal.Skeleton
public import proofs.«01_k».proof.Proof.Layers
public import Idealize.ShloMosaic.Lib.Pointwise
public import Idealize.ShloMosaic.PureOps.IdealRules

@[expose] public section

noncomputable section

namespace Cert.Proof.PI

open Cert.KernelIdeal Cert.KernelIdeal.Gen
open Idealize.ShloMosaic

theorem pay01_apply (x : Vec Ideal S10000x128 .f32) (w : Vec Ideal S128x128 .f32) (k : Fin 10000) (j : Fin 128) :
    k0_pay1 (F := Ideal) x w (ix2 k j) = ∑ d : Fin 128, x (ix2 k d) * w (ix2 j d) := by
  pointwise [k0_pay1]

theorem pay02_apply (v : Vec Ideal S480x10000 .f32) (r : Fin 480) (k : Fin 10000) :
    k0_pay2 (F := Ideal) v (ix2 r k) = byte (v (ix2 r k)) := by
  pointwise [k0_pay2]
  rw [word255, word128]
  rfl

theorem pay03_apply (v : Vec Ideal S480x10000 .f32) (y : Vec Ideal S10000x128 .f32) (b a : Vec Ideal S1x128 .f32) (r : Fin 480) (j : Fin 128) :
    k0_pay3 (F := Ideal) v y b a (ix2 r j)
      = prelu (a (ix2 0 j)) ((∑ k : Fin 10000, v (ix2 r k) * y (ix2 k j)) + b (ix2 0 j)) := by
  pointwise [k0_pay3]
  exact max_add_mul_min _ _

theorem pay12_apply (x : Vec Ideal S10000x128 .f32) (w : Vec Ideal S128x128 .f32) (k : Fin 10000) (j : Fin 128) :
    k1_pay2 (F := Ideal) x w (ix2 k j) = ∑ d : Fin 128, x (ix2 k d) * w (ix2 j d) := by
  pointwise [k1_pay2, k1_pay1]

theorem pay13_apply (x : Vec Ideal S10000x128 .f32) (w : Vec Ideal S128x128 .f32) (b : Vec Ideal S1x128 .f32) (j : Fin 128) :
    k1_pay3 (F := Ideal) x w b (ix2 0 j)
      = b (ix2 0 j) + ((128 / 255 : ℝ) : EReal) * ∑ k : Fin 10000, ∑ d : Fin 128, x (ix2 k d) * w (ix2 j d) := by
  pointwise [k1_pay3, k1_pay1]
  rw [IdealRules.named_const.ideal_named_scalar κ "c128_255" _ _ rfl]

theorem pay14_apply (v : Vec Ideal S480x10000 .i8) (y : Vec Ideal S10000x128 .bf16) (b a : Vec Ideal S1x128 .f32) (r : Fin 480) (j : Fin 128) :
    k1_pay4 (F := Ideal) v y b a (ix2 r j)
      = prelu (a (ix2 0 j)) ((∑ k : Fin 10000, (((BitVec.toInt (v (ix2 r k)) : ℤ) : ℝ) : EReal) * y (ix2 k j)) * ((1 / 255 : ℝ) : EReal) + b (ix2 0 j)) := by
  pointwise [k1_pay4]
  rw [IdealRules.named_const.ideal_named_scalar κ "inv255" _ _ rfl]
  exact max_add_mul_min _ _

end Cert.Proof.PI
-- ==== Proof.PI.Values.lean ====
/-
  What the run leaves, element by element over the extended reals: the host's rows, layer 1's two arrays, the result.
-/
module

public import proofs.«01_k».proof.Proof.PI.Blocks
public import proofs.«01_k».proof.Proof.PI.Payload
public import Idealize.ShloMosaic.Lib.StableHlo

@[expose] public section

set_option maxRecDepth 16384

noncomputable section

namespace Cert.Proof.PI

open Cert.KernelIdeal Cert.KernelIdeal.Gen

open Idealize.ShloMosaic
open Idealize.ShloMosaic.TcCoe
open Idealize.ShloMosaic.Pipeline (RDat Dat Cfg Window)

variable (m : (ℓ : Loc nD τ sig) → Buf (Elt Ideal) ℓ) (c : Dev nD)

/-- The arguments' entries. -/
def xs (k : Fin 10000) (e : Fin 128) : EReal := m ((c.tc : Thread nD τ).loc main_arg0) (ix2 k e)
def adj (k l : Fin 10000) : EReal := m ((c.tc : Thread nD τ).loc main_arg1) (ix2 k l)
def wt1 (j e : Fin 128) : EReal := m ((c.tc : Thread nD τ).loc main_arg2) (ix2 j e)
def bias1 (j : Fin 128) : EReal := m ((c.tc : Thread nD τ).loc main_arg3) (ix1 j)
def slope1 : EReal := m ((c.tc : Thread nD τ).loc main_arg4) ix0
def wt2 (j e : Fin 128) : EReal := m ((c.tc : Thread nD τ).loc main_arg5) (ix2 j e)
def bias2 (j : Fin 128) : EReal := m ((c.tc : Thread nD τ).loc main_arg6) (ix1 j)
def slope2 : EReal := m ((c.tc : Thread nD τ).loc main_arg7) ix0

theorem V1_b1 (j : Fin 128) : V1 m c main_v0 (ix2 (n0 := 1) (n1 := 128) 0 j) = bias1 m c j := by
  have e : V1 m c main_v0 = shapeCast S1x128 (m ((c.tc : Thread nD τ).loc main_arg3)) shapeCasts_S128_S1x128 := by
    after_results
    rfl
  rw [e]
  pointwise
  rfl

theorem V1_a1 (j : Fin 128) : V1 m c main_v3 (ix2 (n0 := 1) (n1 := 128) 0 j) = slope1 m c := by
  have e : V1 m c main_v3 = broadcastInDim S1x128 ![0, 1] bcast_S1x1_S1x128_0_1 (shapeCast S1x1 (m ((c.tc : Thread nD τ).loc main_arg4)) shapeCasts_S_S1x1) := by
    after_results
    rfl
  rw [e]
  pointwise
  rfl

theorem V1_b2 (j : Fin 128) : V1 m c main_v1 (ix2 (n0 := 1) (n1 := 128) 0 j) = bias2 m c j := by
  have e : V1 m c main_v1 = shapeCast S1x128 (m ((c.tc : Thread nD τ).loc main_arg6)) shapeCasts_S128_S1x128 := by
    after_results
    rfl
  rw [e]
  pointwise
  rfl

theorem V1_a2 (j : Fin 128) : V1 m c main_v5 (ix2 (n0 := 1) (n1 := 128) 0 j) = slope2 m c := by
  have e : V1 m c main_v5 = broadcastInDim S1x128 ![0, 1] bcast_S1x1_S1x128_0_1 (shapeCast S1x1 (m ((c.tc : Thread nD τ).loc main_arg7)) shapeCasts_S_S1x1) := by
    after_results
    rfl
  rw [e]
  pointwise
  rfl

/-- Layer 1's result. -/
def hid (k : Fin 10000) (j : Fin 128) : EReal := layer (adj m c) (xs m c) (wt1 m c) (bias1 m c) (slope1 m c) k j

theorem y0_apply (k : Fin 10000) (j : Fin 128) : y0 m c (ix2 k j) = proj (xs m c) (wt1 m c) k j := by
  unfold y0
  rw [pay01_apply, x0_eq, w0_eq, V1_of m c main_arg0 (by decide), V1_of m c main_arg2 (by decide)]
  rfl

/-- A row of a point's block of layer 1, where the row lies in the array. -/
theorem hid_block (t : Fin cfg0.N) (d : S480x10000.Idx → Elt Ideal .f32) (r : Fin 480) (j : Fin 128) (h : 480 * t.val + r.val < 10000) :
    k0_pay3 (F := Ideal) (adjAt m c t d) (y0 m c) (b0 m c) (a0 m c) (ix2 r j) = hid m c ⟨480 * t.val + r.val, h⟩ j := by
  rw [pay03_apply, b0_eq, a0_eq, V1_b1, V1_a1]
  unfold hid layer
  congr 2
  refine Finset.sum_congr rfl fun k _ => ?_
  rw [adjAt_apply m c t d r k h, y0_apply, V1_of m c main_arg1 (by decide)]
  rfl

/-- A row of a point's block of bytes, where the row lies in the adjacency. -/
theorem byte_block (t : Fin cfg0.N) (d : S480x10000.Idx → Elt Ideal .f32) (r : Fin 480) (k : Fin 10000) (h : 480 * t.val + r.val < 10000) :
    k0_pay2 (F := Ideal) (adjAt m c t d) (ix2 r k) = byte (adj m c ⟨480 * t.val + r.val, h⟩ k) := by
  rw [pay02_apply, adjAt_apply m c t d r k h, V1_of m c main_arg1 (by decide)]
  rfl

variable {m c}

/-- Layer 1 leaves its result in the first array. -/
theorem left0_z {o : Arrs Ideal} (ho : left0 m c o) (i : S10000x128.Idx) : o.1 i = hid m c (i 0) (i 1) := by
  refine forall_of_arrAt ho.1 (fun i v => v = hid m c (i 0) (i 1)) covers0_5 (Memref.isWhole_whole _) (fun t X hX y => ?_) i
  obtain ⟨Y, -, d, rfl⟩ := hX
  obtain ⟨e0, e1⟩ := emb0_5 t y
  have hr : (y 0).val < min 480 (10000 - 480 * t.val) := lt_of_lt_of_eq (y 0).isLt (rows0_5 t)
  have hb : 480 * t.val + (y 0).val < 10000 := by omega
  have hj : (y 1).val < 128 := lt_of_lt_of_eq (y 1).isLt (cols0_5 t)
  have hy : win0_5.xinj (cfg0.grid.coords t) y = (ix2 ⟨(y 0).val, by omega⟩ ⟨(y 1).val, hj⟩ : S480x128.Idx) := by
    funext a; match a with | 0 => rfl | 1 => rfl
  refine Eq.trans (b := k0_pay3 (F := Ideal) (adjAt m c t d) (y0 m c) (b0 m c) (a0 m c) (win0_5.xinj (cfg0.grid.coords t) y)) rfl ?_
  rw [hy, hid_block m c t d _ _ hb]
  exact congrArg₂ (hid m c) (Fin.ext e0.symm) (Fin.ext e1.symm)

/-- Layer 1 leaves the byte of each of the adjacency's entries in the second array. -/
theorem left0_q {o : Arrs Ideal} (ho : left0 m c o) (i : S10080x10000.Idx) (h : (i 0).val < 10000) :
    o.2 i = byte (adj m c ⟨(i 0).val, h⟩ (i 1)) := by
  refine forall_of_arrAt ho.2 (fun i v => ∀ h : (i 0).val < 10000, v = byte (adj m c ⟨(i 0).val, h⟩ (i 1))) covers0_6
    (Memref.isWhole_whole _) (fun t X hX y => ?_) i h
  obtain ⟨Y, -, d, rfl⟩ := hX
  obtain ⟨e0, e1⟩ := emb0_6 t y
  intro h
  have hb : 480 * t.val + (y 0).val < 10000 := lt_of_eq_of_lt e0.symm h
  have hr : (y 0).val < 480 := (y 0).isLt
  have hk : (y 1).val < 10000 := (y 1).isLt
  have hy : win0_6.xinj (cfg0.grid.coords t) y = (ix2 ⟨(y 0).val, hr⟩ ⟨(y 1).val, hk⟩ : S480x10000.Idx) := by
    funext a; match a with | 0 => rfl | 1 => rfl
  refine Eq.trans (b := k0_pay2 (F := Ideal) (adjAt m c t d) (win0_6.xinj (cfg0.grid.coords t) y)) rfl ?_
  rw [hy]
  refine (byte_block m c t d _ _ hb).trans ?_
  exact congrArg byte (congrArg₂ (adj m c) (Fin.ext e0.symm) (Fin.ext e1.symm))

/-- Layer 2's block of bytes at a point is 480 rows of the array of bytes. -/
theorem qAt_apply (z : _) (q : S10080x10000.Idx → BitVec 8) (t : Fin cfg1.N) (r : Fin 480) (k : Fin 10000) (h : 480 * t.val + r.val < 10080) :
    qAt m c z q t (ix2 r k) = q (ix2 (n0 := 10080) (n1 := 10000) ⟨480 * t.val + r.val, h⟩ k) := by
  unfold qAt
  rw [W2_q]
  refine congrArg q ?_
  obtain ⟨e0, e1⟩ := emb1_0 t (ix2 r k)
  funext a
  match a with
  | 0 => exact Fin.ext e0
  | 1 => exact Fin.ext e1

theorem y1_apply {o : Arrs Ideal} (ho : left0 m c o) (k : Fin 10000) (j : Fin 128) :
    y1 m c o.1 o.2 (ix2 k j) = proj (hid m c) (wt2 m c) k j := by
  unfold y1
  rw [pay12_apply, z1_eq, w1_eq, W2_z, W2_of m c o.1 o.2 main_arg5 (by decide) (by decide), V1_of m c main_arg5 (by decide)]
  refine Finset.sum_congr rfl fun d _ => ?_
  rw [left0_z ho]
  rfl

theorem e1_apply {o : Arrs Ideal} (ho : left0 m c o) (j : Fin 128) :
    e1 m c o.1 o.2 (ix2 0 j) = bias2 m c j + ((128/255:ℝ):EReal) * ∑ k, proj (hid m c) (wt2 m c) k j := by
  unfold e1
  rw [pay13_apply, z1_eq, w1_eq, PI.b1_eq, W2_z, W2_of m c o.1 o.2 main_arg5 (by decide) (by decide), V1_of m c main_arg5 (by decide),
    W2_of m c o.1 o.2 main_v1 (by decide) (by decide), V1_b2]
  refine congrArg (fun s => bias2 m c j + ((128/255:ℝ):EReal) * s) (Finset.sum_congr rfl fun k _ => Finset.sum_congr rfl fun d _ => ?_)
  rw [left0_z ho]
  rfl

/-- The whole result: layer 2 of layer 1, layer 2 reading the adjacency's levels. -/
def res (m : (ℓ : Loc nD τ sig) → Buf (Elt Ideal) ℓ) (c : Dev nD) (k : Fin 10000) (j : Fin 128) : EReal :=
  layer (onGrid (adj m c)) (hid m c) (wt2 m c) (bias2 m c) (slope2 m c) k j

theorem out_block {o : Arrs Ideal} (ho : left0 m c o) (hy : ∀ k j, IsReal (proj (hid m c) (wt2 m c) k j))
    (t : Fin cfg1.N) (r : Fin 480) (j : Fin 128) (h : 480 * t.val + r.val < 10000) :
    outAt m c o.1 o.2 t (ix2 r j) = res m c ⟨480 * t.val + r.val, h⟩ j := by
  unfold outAt
  rw [pay14_apply, e1_apply ho, a1_eq, W2_of m c o.1 o.2 main_v5 (by decide) (by decide), V1_a2]
  unfold res layer
  refine congrArg (prelu _) ?_
  refine Eq.trans ?_ (shifted_product (adj m c ⟨480 * t.val + r.val, h⟩) (fun k => proj (hid m c) (wt2 m c) k j) (bias2 m c j) (fun k => hy k j))
  refine congrArg (fun s => s * ((1/255:ℝ):EReal) + _) (Finset.sum_congr rfl fun k _ => ?_)
  rw [qAt_apply _ _ t r k (by omega), y1_apply ho, left0_q ho _ h]
  rfl

/-- The run leaves the whole result in the result array. -/
theorem left1_res {o : Arrs Ideal} (ho : left0 m c o) (hy : ∀ k j, IsReal (proj (hid m c) (wt2 m c) k j)) {v : S10000x128.Idx → EReal}
    (hv : left1 m c o v) (i : S10000x128.Idx) : v i = res m c (i 0) (i 1) := by
  refine forall_of_arrAt hv (fun i v => v = res m c (i 0) (i 1)) covers1_5 (Memref.isWhole_whole _) (fun t X hX y => ?_) i
  obtain ⟨Y, -, rfl⟩ := hX
  obtain ⟨e0, e1⟩ := emb1_5 t y
  have hr : (y 0).val < min 480 (10000 - 480 * t.val) := lt_of_lt_of_eq (y 0).isLt (rows1_5 t)
  have hb : 480 * t.val + (y 0).val < 10000 := by omega
  have hj : (y 1).val < 128 := lt_of_lt_of_eq (y 1).isLt (cols1_5 t)
  have hy' : win1_5.xinj (cfg1.grid.coords t) y = (ix2 ⟨(y 0).val, by omega⟩ ⟨(y 1).val, hj⟩ : S480x128.Idx) := by
    funext a; match a with | 0 => rfl | 1 => rfl
  refine Eq.trans (b := outAt m c o.1 o.2 t (win1_5.xinj (cfg1.grid.coords t) y)) rfl ?_
  rw [hy', out_block ho hy t _ _ hb]
  exact congrArg₂ (res m c) (Fin.ext e0.symm) (Fin.ext e1.symm)

end Cert.Proof.PI
-- ==== Proof.RefVal.lean ====
/-
  What the reference computes, element by element over the extended reals.
-/
module

public import proofs.«01_k».proof.Proof.Gen.ReferenceIdeal.Run
public import proofs.«01_k».proof.Proof.Layers
public import Idealize.ShloMosaic.Lib.Pointwise

@[expose] public section

noncomputable section

namespace Cert.Proof.Ref

open Cert.ReferenceIdeal Cert.ReferenceIdeal.Gen
open Idealize.ShloMosaic Idealize.ShloMosaic.TcCoe

variable (m : (ℓ : Loc nD τ sig) → Buf (Elt Ideal) ℓ) (c : Dev nD)

/-- The arguments' entries. -/
def xs (k : Fin 10000) (e : Fin 128) : EReal := m ((c.tc : Thread nD τ).loc main_arg0) (ix2 k e)
def adj (k l : Fin 10000) : EReal := m ((c.tc : Thread nD τ).loc main_arg1) (ix2 k l)
def wt1 (j e : Fin 128) : EReal := m ((c.tc : Thread nD τ).loc main_arg2) (ix2 j e)
def bias1 (j : Fin 128) : EReal := m ((c.tc : Thread nD τ).loc main_arg3) (ix1 j)
def slope1 : EReal := m ((c.tc : Thread nD τ).loc main_arg4) ix0
def wt2 (j e : Fin 128) : EReal := m ((c.tc : Thread nD τ).loc main_arg5) (ix2 j e)
def bias2 (j : Fin 128) : EReal := m ((c.tc : Thread nD τ).loc main_arg6) (ix1 j)
def slope2 : EReal := m ((c.tc : Thread nD τ).loc main_arg7) ix0

/-- The reference is layer 1, then layer 2 over the adjacency's levels. -/
theorem res_apply (r : Fin 10000) (j : Fin 128) :
    Cert.ReferenceIdeal.Value.res_main_v27 (F := Ideal) m c (ix2 r j)
      = layer (onGrid (adj m c)) (layer (adj m c) (xs m c) (wt1 m c) (bias1 m c) (slope1 m c)) (wt2 m c) (bias2 m c) (slope2 m c) r j := by
  have e255 : (id (constant (F := Ideal) S_ .f32 1132396544#32) ix0 : EReal) = ((255 : ℝ) : EReal) := word255
  have e0 : (id (constant (F := Ideal) S_ .f32 0#32) ix0 : EReal) = 0 := Ideal.ofBits_zero_f32
  pointwise [Cert.ReferenceIdeal.Value.res_main_v27]
  simp only [e255, e0, word255]
  rfl

end Cert.Proof.Ref
-- ==== Proof.Finite.lean ====
/-
  The precondition read back: every entry it speaks of is a real number.
-/
module

public import proofs.«01_k».proof.Proof.Gen.Pre_finite
public import proofs.«01_k».proof.Proof.Layers
public import Idealize.ShloMosaic.Lib.ReduceAll
public import Idealize.ShloMosaic.Lib.Pointwise

@[expose] public section

noncomputable section

namespace Cert.Proof

open Cert.Pre_finite Cert.Pre_finite.Gen
open Idealize.ShloMosaic

theorem word_inf : Ideal.ofBits .f32 0x7F800000#32 = (⊤ : EReal) := by
  simp [Ideal.ofBits, Ideal.ieee]

/-- An extended real whose absolute value compares below infinity is a real number. -/
theorem isReal_of_abs {x : Ideal .f32} (h : FloatOps.cmpf (F := Ideal) (φ := .f32) .olt (FloatOps.hostAbsf x) (FloatOps.ofBits .f32 0x7F800000#32) = 1#1) : IsReal x := by
  have h' : max x (-x) < (⊤ : EReal) := lt_of_lt_of_eq ((Ideal.cmp_olt_eq_one _ _).1 h) word_inf
  have h1 : x ≠ ⊤ := ((le_max_left x (-x)).trans_lt h').ne
  have h2 : x ≠ ⊥ := fun e => ((le_max_right x (-x)).trans_lt h').ne (by rw [e]; rfl)
  exact ⟨EReal.toReal x, (EReal.coe_toReal h1 h2).symm⟩

variable {x0 : FVec Ideal S10000x128 .f32} {x1 : FVec Ideal S10000x10000 .f32} {x2 : FVec Ideal S128x128 .f32} {x3 : FVec Ideal S128 .f32}
  {x4 : FVec Ideal S_ .f32} {x5 : FVec Ideal S128x128 .f32} {x6 : FVec Ideal S128 .f32} {x7 : FVec Ideal S_ .f32}

/-- The operands of the two layers' products are real numbers. -/
theorem reals_of_finite (h : Cert.Pre_finite.fn (F := Ideal) x0 x1 x2 x3 x4 x5 x6 x7 ix0 = 1#1) :
    (∀ i, IsReal (x0 i)) ∧ (∀ i, IsReal (x1 i)) ∧ (∀ i, IsReal (x2 i)) ∧ (∀ i, IsReal (x3 i)) ∧ IsReal (x4 ix0) ∧ (∀ i, IsReal (x5 i)) := by
  haveI : Subsingleton S_.Idx := ⟨fun a b => funext fun k => k.elim0⟩
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => isReal_of_abs (Host.reduce_andi_all _ _ _ _ _ h0 i), fun i => isReal_of_abs (Host.reduce_andi_all _ _ _ _ _ h1 i),
    fun i => isReal_of_abs (Host.reduce_andi_all _ _ _ _ _ h2 i), fun i => isReal_of_abs (Host.reduce_andi_all _ _ _ _ _ h3 i),
    isReal_of_abs h4, fun i => isReal_of_abs (Host.reduce_andi_all _ _ _ _ _ h5 i)⟩

end Cert.Proof
-- ==== Proof.Algebraic.lean ====
/-
  The kernel and the reference end with the same result where the operands of the products are real numbers.
-/
module

public import proofs.«01_k».proof.Defs
public import proofs.«01_k».proof.Proof.PI.Values
public import proofs.«01_k».proof.Proof.PI.Run
public import proofs.«01_k».proof.Proof.RefVal
public import proofs.«01_k».proof.Proof.Finite

@[expose] public section

noncomputable section

namespace Cert.Proof

open Idealize.ShloMosaic Idealize.SL.Sem

/-- Under the precondition the inputs of layer 2's large product are real numbers. -/
theorem hid_real (m : (ℓ : Loc Cert.KernelIdeal.nD Cert.KernelIdeal.τ Cert.KernelIdeal.sig) → Buf (Elt Ideal) ℓ)
    (h : Cert.Pre_KernelIdeal_finite (hPre_finite := Cert.Pre_finite.Gen.facts) m) (c : Dev Cert.KernelIdeal.nD) (k : Fin 10000) (j : Fin 128) :
    IsReal (proj (PI.hid m c) (PI.wt2 m c) k j) := by
  obtain ⟨h0, h1, h2, h3, h4, h5⟩ := reals_of_finite (congrFun (h c) ix0)
  exact IsReal.proj (fun k j => IsReal.layer (fun k l => h1 (ix2 k l)) (fun k e => h0 (ix2 k e)) (fun j e => h2 (ix2 j e)) (fun j => h3 (ix1 j)) h4 k j)
    (fun j e => h5 (ix2 j e)) k j

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c i => PI.res m c (i 0) (i 1), (θ_run _ _ _).mono (fun r h c => ?_) (PI.run m g),
    (θ_run _ _ _).mono (fun r h c => ⟨(h c).1.trans ?_, (h c).2⟩) (Cert.ReferenceIdeal.Value.run (F := Ideal) m' g')⟩
  · obtain ⟨ha, o, h0, h1⟩ := h.1 c
    exact ⟨funext fun i => PI.left1_res h0 (hid_real m hpre c) h1 i, ha⟩
  · funext i
    obtain ⟨e0, e1, e2, e3, e4, e5, e6, e7⟩ := hargs c
    have a0 : Ref.xs m' c = PI.xs m c := funext fun k => funext fun e => congrFun e0 (ix2 k e)
    have a1 : Ref.adj m' c = PI.adj m c := funext fun k => funext fun l => congrFun e1 (ix2 k l)
    have a2 : Ref.wt1 m' c = PI.wt1 m c := funext fun j => funext fun e => congrFun e2 (ix2 j e)
    have a3 : Ref.bias1 m' c = PI.bias1 m c := funext fun j => congrFun e3 (ix1 j)
    have a4 : Ref.slope1 m' c = PI.slope1 m c := congrFun e4 ix0
    have a5 : Ref.wt2 m' c = PI.wt2 m c := funext fun j => funext fun e => congrFun e5 (ix2 j e)
    have a6 : Ref.bias2 m' c = PI.bias2 m c := funext fun j => congrFun e6 (ix1 j)
    have a7 : Ref.slope2 m' c = PI.slope2 m c := congrFun e7 ix0
    have hi : i = ix2 (n0 := 10000) (n1 := 128) (i 0) (i 1) := eq_ix2 i
    have e := Ref.res_apply m' c (i 0) (i 1)
    rw [a0, a1, a2, a3, a4, a5, a6, a7] at e
    exact (congrArg (Cert.ReferenceIdeal.Value.res_main_v27 (F := Ideal) m' c) hi).trans e

end Cert.Proof
-- ==== Proof.lean ====
/-
  The certificate: the three frames, the named constants, and the equality of the two results.
-/
module

public import proofs.«01_k».proof.Defs
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Pre_finite.Gen.facts,
    frame_Kernel, frame_KernelIdeal, frame_KernelIdeal_finite, frame_ReferenceIdeal, frame_ReferenceIdeal_finite,
    ⟨named_c128_255, named_inv255⟩, algebraic⟩

end Cert.Proof

end
